-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9)
      ∧ r.2.mem ((c.tc : Thread Cert.OutKernel.nD Cert.OutKernel.τ).loc Cert.OutKernel.main_arg10) = m ((c.tc : Thread Cert.OutKernel.nD Cert.OutKernel.τ).loc Cert.OutKernel.main_arg10)
      ∧ r.2.mem ((c.tc : Thread Cert.OutKernel.nD Cert.OutKernel.τ).loc Cert.OutKernel.main_arg11) = m ((c.tc : Thread Cert.OutKernel.nD Cert.OutKernel.τ).loc Cert.OutKernel.main_arg11)
      ∧ r.2.mem ((c.tc : Thread Cert.OutKernel.nD Cert.OutKernel.τ).loc Cert.OutKernel.main_arg12) = m ((c.tc : Thread Cert.OutKernel.nD Cert.OutKernel.τ).loc Cert.OutKernel.main_arg12)
      ∧ r.2.mem ((c.tc : Thread Cert.OutKernel.nD Cert.OutKernel.τ).loc Cert.OutKernel.main_arg13) = m ((c.tc : Thread Cert.OutKernel.nD Cert.OutKernel.τ).loc Cert.OutKernel.main_arg13)
      ∧ r.2.mem ((c.tc : Thread Cert.OutKernel.nD Cert.OutKernel.τ).loc Cert.OutKernel.main_arg14) = m ((c.tc : Thread Cert.OutKernel.nD Cert.OutKernel.τ).loc Cert.OutKernel.main_arg14)
      ∧ r.2.mem ((c.tc : Thread Cert.OutKernel.nD Cert.OutKernel.τ).loc Cert.OutKernel.main_arg15) = m ((c.tc : Thread Cert.OutKernel.nD Cert.OutKernel.τ).loc Cert.OutKernel.main_arg15))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
      ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10)
      ∧ r.2.mem ((c.tc : Thread Cert.OutKernelIdeal.nD Cert.OutKernelIdeal.τ).loc Cert.OutKernelIdeal.main_arg11) = m ((c.tc : Thread Cert.OutKernelIdeal.nD Cert.OutKernelIdeal.τ).loc Cert.OutKernelIdeal.main_arg11)
      ∧ r.2.mem ((c.tc : Thread Cert.OutKernelIdeal.nD Cert.OutKernelIdeal.τ).loc Cert.OutKernelIdeal.main_arg12) = m ((c.tc : Thread Cert.OutKernelIdeal.nD Cert.OutKernelIdeal.τ).loc Cert.OutKernelIdeal.main_arg12)
      ∧ r.2.mem ((c.tc : Thread Cert.OutKernelIdeal.nD Cert.OutKernelIdeal.τ).loc Cert.OutKernelIdeal.main_arg13) = m ((c.tc : Thread Cert.OutKernelIdeal.nD Cert.OutKernelIdeal.τ).loc Cert.OutKernelIdeal.main_arg13)
      ∧ r.2.mem ((c.tc : Thread Cert.OutKernelIdeal.nD Cert.OutKernelIdeal.τ).loc Cert.OutKernelIdeal.main_arg14) = m ((c.tc : Thread Cert.OutKernelIdeal.nD Cert.OutKernelIdeal.τ).loc Cert.OutKernelIdeal.main_arg14)
      ∧ r.2.mem ((c.tc : Thread Cert.OutKernelIdeal.nD Cert.OutKernelIdeal.τ).loc Cert.OutKernelIdeal.main_arg15) = m ((c.tc : Thread Cert.OutKernelIdeal.nD Cert.OutKernelIdeal.τ).loc Cert.OutKernelIdeal.main_arg15))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10)
      ∧ r.2.mem ((c.tc : Thread Cert.OutReferenceIdeal.nD Cert.OutReferenceIdeal.τ).loc Cert.OutReferenceIdeal.main_arg11) = m ((c.tc : Thread Cert.OutReferenceIdeal.nD Cert.OutReferenceIdeal.τ).loc Cert.OutReferenceIdeal.main_arg11)
      ∧ r.2.mem ((c.tc : Thread Cert.OutReferenceIdeal.nD Cert.OutReferenceIdeal.τ).loc Cert.OutReferenceIdeal.main_arg12) = m ((c.tc : Thread Cert.OutReferenceIdeal.nD Cert.OutReferenceIdeal.τ).loc Cert.OutReferenceIdeal.main_arg12)
      ∧ r.2.mem ((c.tc : Thread Cert.OutReferenceIdeal.nD Cert.OutReferenceIdeal.τ).loc Cert.OutReferenceIdeal.main_arg13) = m ((c.tc : Thread Cert.OutReferenceIdeal.nD Cert.OutReferenceIdeal.τ).loc Cert.OutReferenceIdeal.main_arg13)
      ∧ r.2.mem ((c.tc : Thread Cert.OutReferenceIdeal.nD Cert.OutReferenceIdeal.τ).loc Cert.OutReferenceIdeal.main_arg14) = m ((c.tc : Thread Cert.OutReferenceIdeal.nD Cert.OutReferenceIdeal.τ).loc Cert.OutReferenceIdeal.main_arg14)
      ∧ r.2.mem ((c.tc : Thread Cert.OutReferenceIdeal.nD Cert.OutReferenceIdeal.τ).loc Cert.OutReferenceIdeal.main_arg15) = m ((c.tc : Thread Cert.OutReferenceIdeal.nD Cert.OutReferenceIdeal.τ).loc Cert.OutReferenceIdeal.main_arg15))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InKernel_InKernelIdeal : Prop :=
  IdealRules.named_const.Statement Cert.InKernelIdeal.κ "scale" .f32 0x3E38AA3B#32 (((Real.log 256)⁻¹ : ℝ) : EReal)

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)) →
    ∃ (v0 : (c : Dev Cert.InKernelIdeal.nD) → Buf (Elt Ideal) ((c.tc : Thread Cert.InKernelIdeal.nD Cert.InKernelIdeal.τ).loc Cert.InKernelIdeal.main_v24_0)) (v1 : (c : Dev Cert.InKernelIdeal.nD) → Buf (Elt Ideal) ((c.tc : Thread Cert.InKernelIdeal.nD Cert.InKernelIdeal.τ).loc Cert.InKernelIdeal.main_v24_1)) (v2 : (c : Dev Cert.InKernelIdeal.nD) → Buf (Elt Ideal) ((c.tc : Thread Cert.InKernelIdeal.nD Cert.InKernelIdeal.τ).loc Cert.InKernelIdeal.main_v24_2)) (v3 : (c : Dev Cert.InKernelIdeal.nD) → Buf (Elt Ideal) ((c.tc : Thread Cert.InKernelIdeal.nD Cert.InKernelIdeal.τ).loc Cert.InKernelIdeal.main_v24_3)) (v4 : (c : Dev Cert.InKernelIdeal.nD) → Buf (Elt Ideal) ((c.tc : Thread Cert.InKernelIdeal.nD Cert.InKernelIdeal.τ).loc Cert.InKernelIdeal.main_v24_4)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v24_0) = v0 c
          ∧ r.2.mem ((c.tc : Thread Cert.InKernelIdeal.nD Cert.InKernelIdeal.τ).loc Cert.InKernelIdeal.main_v24_1) = v1 c
          ∧ r.2.mem ((c.tc : Thread Cert.InKernelIdeal.nD Cert.InKernelIdeal.τ).loc Cert.InKernelIdeal.main_v24_2) = v2 c
          ∧ r.2.mem ((c.tc : Thread Cert.InKernelIdeal.nD Cert.InKernelIdeal.τ).loc Cert.InKernelIdeal.main_v24_3) = v3 c
          ∧ r.2.mem ((c.tc : Thread Cert.InKernelIdeal.nD Cert.InKernelIdeal.τ).loc Cert.InKernelIdeal.main_v24_4) = v4 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v90) = v0 c
          ∧ r.2.mem ((c.tc : Thread Cert.InReferenceIdeal.nD Cert.InReferenceIdeal.τ).loc Cert.InReferenceIdeal.main_v91) = v1 c
          ∧ r.2.mem ((c.tc : Thread Cert.InReferenceIdeal.nD Cert.InReferenceIdeal.τ).loc Cert.InReferenceIdeal.main_v97) = v2 c
          ∧ r.2.mem ((c.tc : Thread Cert.InReferenceIdeal.nD Cert.InReferenceIdeal.τ).loc Cert.InReferenceIdeal.main_v99) = v3 c
          ∧ r.2.mem ((c.tc : Thread Cert.InReferenceIdeal.nD Cert.InReferenceIdeal.τ).loc Cert.InReferenceIdeal.main_v101) = v4 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)
      ∧ m' ((c.tc : Thread Cert.OutReferenceIdeal.nD Cert.OutReferenceIdeal.τ).loc Cert.OutReferenceIdeal.main_arg10) = m ((c.tc : Thread Cert.OutKernelIdeal.nD Cert.OutKernelIdeal.τ).loc Cert.OutKernelIdeal.main_arg10)
      ∧ m' ((c.tc : Thread Cert.OutReferenceIdeal.nD Cert.OutReferenceIdeal.τ).loc Cert.OutReferenceIdeal.main_arg11) = m ((c.tc : Thread Cert.OutKernelIdeal.nD Cert.OutKernelIdeal.τ).loc Cert.OutKernelIdeal.main_arg11)
      ∧ m' ((c.tc : Thread Cert.OutReferenceIdeal.nD Cert.OutReferenceIdeal.τ).loc Cert.OutReferenceIdeal.main_arg12) = m ((c.tc : Thread Cert.OutKernelIdeal.nD Cert.OutKernelIdeal.τ).loc Cert.OutKernelIdeal.main_arg12)
      ∧ m' ((c.tc : Thread Cert.OutReferenceIdeal.nD Cert.OutReferenceIdeal.τ).loc Cert.OutReferenceIdeal.main_arg13) = m ((c.tc : Thread Cert.OutKernelIdeal.nD Cert.OutKernelIdeal.τ).loc Cert.OutKernelIdeal.main_arg13)
      ∧ m' ((c.tc : Thread Cert.OutReferenceIdeal.nD Cert.OutReferenceIdeal.τ).loc Cert.OutReferenceIdeal.main_arg14) = m ((c.tc : Thread Cert.OutKernelIdeal.nD Cert.OutKernelIdeal.τ).loc Cert.OutKernelIdeal.main_arg14)
      ∧ m' ((c.tc : Thread Cert.OutReferenceIdeal.nD Cert.OutReferenceIdeal.τ).loc Cert.OutReferenceIdeal.main_arg15) = m ((c.tc : Thread Cert.OutKernelIdeal.nD Cert.OutKernelIdeal.τ).loc Cert.OutKernelIdeal.main_arg15)) →
    ∃ (v0 : (c : Dev Cert.OutKernelIdeal.nD) → Buf (Elt Ideal) ((c.tc : Thread Cert.OutKernelIdeal.nD Cert.OutKernelIdeal.τ).loc Cert.OutKernelIdeal.main_v15_0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v15_0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9)
          ∧ r.2.mem ((c.tc : Thread Cert.OutKernelIdeal.nD Cert.OutKernelIdeal.τ).loc Cert.OutKernelIdeal.main_arg10) = m ((c.tc : Thread Cert.OutKernelIdeal.nD Cert.OutKernelIdeal.τ).loc Cert.OutKernelIdeal.main_arg10)
          ∧ r.2.mem ((c.tc : Thread Cert.OutKernelIdeal.nD Cert.OutKernelIdeal.τ).loc Cert.OutKernelIdeal.main_arg11) = m ((c.tc : Thread Cert.OutKernelIdeal.nD Cert.OutKernelIdeal.τ).loc Cert.OutKernelIdeal.main_arg11)
          ∧ r.2.mem ((c.tc : Thread Cert.OutKernelIdeal.nD Cert.OutKernelIdeal.τ).loc Cert.OutKernelIdeal.main_arg12) = m ((c.tc : Thread Cert.OutKernelIdeal.nD Cert.OutKernelIdeal.τ).loc Cert.OutKernelIdeal.main_arg12)
          ∧ r.2.mem ((c.tc : Thread Cert.OutKernelIdeal.nD Cert.OutKernelIdeal.τ).loc Cert.OutKernelIdeal.main_arg13) = m ((c.tc : Thread Cert.OutKernelIdeal.nD Cert.OutKernelIdeal.τ).loc Cert.OutKernelIdeal.main_arg13)
          ∧ r.2.mem ((c.tc : Thread Cert.OutKernelIdeal.nD Cert.OutKernelIdeal.τ).loc Cert.OutKernelIdeal.main_arg14) = m ((c.tc : Thread Cert.OutKernelIdeal.nD Cert.OutKernelIdeal.τ).loc Cert.OutKernelIdeal.main_arg14)
          ∧ r.2.mem ((c.tc : Thread Cert.OutKernelIdeal.nD Cert.OutKernelIdeal.τ).loc Cert.OutKernelIdeal.main_arg15) = m ((c.tc : Thread Cert.OutKernelIdeal.nD Cert.OutKernelIdeal.τ).loc Cert.OutKernelIdeal.main_arg15))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v58) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9)
          ∧ r.2.mem ((c.tc : Thread Cert.OutReferenceIdeal.nD Cert.OutReferenceIdeal.τ).loc Cert.OutReferenceIdeal.main_arg10) = m' ((c.tc : Thread Cert.OutReferenceIdeal.nD Cert.OutReferenceIdeal.τ).loc Cert.OutReferenceIdeal.main_arg10)
          ∧ r.2.mem ((c.tc : Thread Cert.OutReferenceIdeal.nD Cert.OutReferenceIdeal.τ).loc Cert.OutReferenceIdeal.main_arg11) = m' ((c.tc : Thread Cert.OutReferenceIdeal.nD Cert.OutReferenceIdeal.τ).loc Cert.OutReferenceIdeal.main_arg11)
          ∧ r.2.mem ((c.tc : Thread Cert.OutReferenceIdeal.nD Cert.OutReferenceIdeal.τ).loc Cert.OutReferenceIdeal.main_arg12) = m' ((c.tc : Thread Cert.OutReferenceIdeal.nD Cert.OutReferenceIdeal.τ).loc Cert.OutReferenceIdeal.main_arg12)
          ∧ r.2.mem ((c.tc : Thread Cert.OutReferenceIdeal.nD Cert.OutReferenceIdeal.τ).loc Cert.OutReferenceIdeal.main_arg13) = m' ((c.tc : Thread Cert.OutReferenceIdeal.nD Cert.OutReferenceIdeal.τ).loc Cert.OutReferenceIdeal.main_arg13)
          ∧ r.2.mem ((c.tc : Thread Cert.OutReferenceIdeal.nD Cert.OutReferenceIdeal.τ).loc Cert.OutReferenceIdeal.main_arg14) = m' ((c.tc : Thread Cert.OutReferenceIdeal.nD Cert.OutReferenceIdeal.τ).loc Cert.OutReferenceIdeal.main_arg14)
          ∧ r.2.mem ((c.tc : Thread Cert.OutReferenceIdeal.nD Cert.OutReferenceIdeal.τ).loc Cert.OutReferenceIdeal.main_arg15) = m' ((c.tc : Thread Cert.OutReferenceIdeal.nD Cert.OutReferenceIdeal.τ).loc Cert.OutReferenceIdeal.main_arg15))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
-- ==== Pre_finite.lean ====
abbrev S16x2048x4x4x64 : Shape := ⟨5, ![16, 2048, 4, 4, 64]⟩
abbrev S16x2048x4x64 : Shape := ⟨4, ![16, 2048, 4, 64]⟩
abbrev S16 : Shape := ⟨1, ![16]⟩
abbrev S_ : Shape := ⟨0, ![]⟩

class Facts : Prop where
  bcast_S_S16x2048x4x4x64 : S_.BroadcastsInDim S16x2048x4x4x64 (![] : Fin 0 → Fin S16x2048x4x4x64.rank)
  bcast_S_S16x2048x4x64 : S_.BroadcastsInDim S16x2048x4x64 (![] : Fin 0 → Fin S16x2048x4x64.rank)
  bcast_S_S16 : S_.BroadcastsInDim S16 (![] : Fin 0 → Fin S16.rank)

variable [Facts]

def fn {F : FTy → Type} [FloatOps F] (main_arg0 : FVec F S16x2048x4x4x64 .f32) (main_arg1 : FVec F S16x2048x4x64 .f32) (main_arg2 : FVec F S16x2048x4x64 .f32) (main_arg3 : FVec F S16 .f32) : IVec S16x2048x4x4x64 1 × IVec S16x2048x4x64 1 × IVec S16 1 :=
  let main_v0 : FVec F S16x2048x4x4x64 .f32 := Host.absf main_arg0
  let main_cst : FVec F S_ .f32 := constant S_ .f32 0x7F800000#32
  let main_v1 : FVec F S16x2048x4x4x64 .f32 := broadcastInDim S16x2048x4x4x64 ![] bcast_S_S16x2048x4x4x64 main_cst
  let main_v2 : IVec S16x2048x4x4x64 1 := cmpf .olt main_v0 main_v1
  let main_v3 : FVec F S16x2048x4x64 .f32 := Host.absf main_arg1
  let main_cst_0 : FVec F S_ .f32 := constant S_ .f32 0x7F800000#32
  let main_v4 : FVec F S16x2048x4x64 .f32 := broadcastInDim S16x2048x4x64 ![] bcast_S_S16x2048x4x64 main_cst_0
  let main_v5 : IVec S16x2048x4x64 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Kernel.lean ====
abbrev S16x2048x4x4x64 : Shape := ⟨5, ![16, 2048, 4, 4, 64]⟩
abbrev S16x2048x4x64 : Shape := ⟨4, ![16, 2048, 4, 64]⟩
abbrev S16 : Shape := ⟨1, ![16]⟩
abbrev S_ : Shape := ⟨0, ![]⟩
abbrev S32768x1024 : Shape := ⟨2, ![32768, 1024]⟩
abbrev S16x2048x4x1x64 : Shape := ⟨5, ![16, 2048, 4, 1, 64]⟩
abbrev S16x2048x4x2x64 : Shape := ⟨5, ![16, 2048, 4, 2, 64]⟩
abbrev S32768x512 : Shape := ⟨2, ![32768, 512]⟩
abbrev S512x1024 : Shape := ⟨2, ![512, 1024]⟩
abbrev S128x512 : Shape := ⟨2, ![128, 512]⟩
abbrev S512x512 : Shape := ⟨2, ![512, 512]⟩
abbrev S128x384 : Shape := ⟨2, ![128, 384]⟩
abbrev S128x128 : Shape := ⟨2, ![128, 128]⟩
abbrev S384x128 : Shape := ⟨2, ![384, 128]⟩
abbrev S512x128 : Shape := ⟨2, ![512, 128]⟩
abbrev S768x128 : Shape := ⟨2, ![768, 128]⟩
abbrev S512x384 : Shape := ⟨2, ![512, 384]⟩
abbrev S1 : Shape := ⟨1, ![1]⟩
abbrev S128 : Shape := ⟨1, ![128]⟩
abbrev S128x1 : Shape := ⟨2, ![128, 1]⟩
abbrev S256x384 : Shape := ⟨2, ![256, 384]⟩
abbrev S256x128 : Shape := ⟨2, ![256, 128]⟩

abbrev nBuf : Space → Nat
  | .hbm => 22
  | .vmem => 16
  | .smem => 1
  | _ => 0

abbrev bufTy : (tb : Table) → Fin (tcTables nBuf tb) → BufTy
  | .hbm, ⟨0, _⟩ => ⟨S16x2048x4x4x64, .f32⟩
  | .hbm, ⟨1, _⟩ => ⟨S16x2048x4x64, .f32⟩
  | .hbm, ⟨2, _⟩ => ⟨S16x2048x4x64, .f32⟩
  | .hbm, ⟨3, _⟩ => ⟨S16, .f32⟩
  | .hbm, ⟨4, _⟩ => ⟨S_, .f32⟩
  | .hbm, ⟨5, _⟩ => ⟨S_, .f32⟩
  | .hbm, ⟨6, _⟩ => ⟨S32768x1024, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .bf16⟩
  | .hbm, ⟨13, _⟩ => ⟨S16x2048x4x1x64, .f32⟩
  | .hbm, ⟨14, _⟩ => ⟨S16x2048x4x2x64, .f32⟩
  | .hbm, ⟨15, _⟩ => ⟨S32768x512, .f32⟩
  | .hbm, ⟨16, _⟩ => ⟨S32768x512, .bf16⟩
  | .hbm, ⟨17, _⟩ => ⟨S16x2048x4x1x64, .f32⟩
  | .hbm, ⟨18, _⟩ => ⟨S16x2048x4x2x64, .f32⟩
  | .hbm, ⟨19, _⟩ => ⟨S32768x512, .f32⟩
  | .hbm, ⟨20, _⟩ => ⟨S32768x512, .bf16⟩
  | .hbm, ⟨21, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S512x512, .bf16⟩
  | .local _ .vmem, ⟨11, _⟩ => ⟨S512x512, .bf16⟩
  | .local _ .vmem, ⟨12, _⟩ => ⟨S128x512, .bf16⟩
  | .local _ .vmem, ⟨13, _⟩ => ⟨S128x512, .bf16⟩
  | .local _ .vmem, ⟨14, _⟩ => ⟨S512x1024, .bf16⟩
  | .local _ .vmem, ⟨15, _⟩ => ⟨S512x1024, .bf16⟩
  | .local _ .smem, ⟨0, _⟩ => ⟨S16, .f32⟩
  | _, _ => ⟨S16x2048x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c4_i32 : BitVec 32 := 4#32
  let v2 : BitVec 32 := Scalar.muli v1 c4_i32
  let c15_i32 : BitVec 32 := 15#32
  let v3 : BitVec 32 := Scalar.minsi v2 c15_i32
  let v4 : BitVec 32 := Scalar.addi v0 v3
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c4_i32 : BitVec 32 := 4#32
  let v1 : BitVec 32 := Scalar.muli arg1 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c4_i32 : BitVec 32 := 4#32
  let v2 : BitVec 32 := Scalar.muli v1 c4_i32
  let c15_i32 : BitVec 32 := 15#32
  let v3 : BitVec 32 := Scalar.minsi v2 c15_i32
  let v4 : BitVec 32 := Scalar.addi v0 v3
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16x2048x4x4x64 : Shape := ⟨5, ![16, 2048, 4, 4, 64]⟩
abbrev S16x2048x4x64 : Shape := ⟨4, ![16, 2048, 4, 64]⟩
abbrev S16 : Shape := ⟨1, ![16]⟩
abbrev S4x4 : Shape := ⟨2, ![4, 4]⟩
abbrev S1x4x4x1x1 : Shape := ⟨5, ![1, 4, 4, 1, 1]⟩
abbrev S16x4x2048x2048x4 : Shape := ⟨5, ![16, 4, 2048, 2048, 4]⟩
abbrev S16x4x4x2048x2048 : Shape := ⟨5, ![16, 4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x4x4x2048 : Shape := ⟨4, ![16, 4, 4, 2048]⟩
abbrev S16x4x4x2048x1 : Shape := ⟨5, ![16, 4, 4, 2048, 1]⟩
abbrev S16x4x64x4x2048 : Shape := ⟨5, ![16, 4, 64, 4, 2048]⟩
abbrev S32768x1024 : Shape := ⟨2, ![32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x4x4x64, .f32⟩
  | .hbm, ⟨1, _⟩ => ⟨S16x2048x4x64, .f32⟩
  | .hbm, ⟨2, _⟩ => ⟨S16x2048x4x64, .f32⟩
  | .hbm, ⟨3, _⟩ => ⟨S16, .f32⟩
  | .hbm, ⟨4, _⟩ => ⟨S4x4, .f32⟩
  | .hbm, ⟨5, _⟩ => ⟨S1x4x4x1x1, .f32⟩
  | .hbm, ⟨6, _⟩ => ⟨S16x4x2048x2048x4, .f32⟩
  | .hbm, ⟨7, _⟩ => ⟨S16x4x4x2048x2048, .f32⟩
  | .hbm, ⟨8, _⟩ => ⟨S_, .f32⟩
  | .hbm, ⟨9, _⟩ => ⟨S16x4x4x2048x2048, .f32⟩
  | .hbm, ⟨10, _⟩ => ⟨S16x4x4x2048x2048, .f32⟩
  | .hbm, ⟨11, _⟩ => ⟨S2048, .i32⟩
  | .hbm, ⟨12, _⟩ => ⟨S2048x1, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S16x4x4x2048x2048, .i1⟩
  | .hbm, ⟨24, _⟩ => ⟨S16x4x4x2048x2048, .f32⟩
  | .hbm, ⟨25, _⟩ => ⟨S16x4x4x2048x2048, .f32⟩
  | .hbm, ⟨26, _⟩ => ⟨S_, .f32⟩
  | .hbm, ⟨27, _⟩ => ⟨S16x4x4x2048, .f32⟩
  | .hbm, ⟨28, _⟩ => ⟨S16x4x4x2048x1, .f32⟩
  | .hbm, ⟨29, _⟩ => ⟨S16x4x4x2048x1, .f32⟩
  | .hbm, ⟨30, _⟩ => ⟨S16x4x4x2048x1, .f32⟩
  | .hbm, ⟨31, _⟩ => ⟨S16x4x4x2048x2048, .f32⟩
  | .hbm, ⟨32, _⟩ => ⟨S16x4x4x2048x2048, .f32⟩
  | .hbm, ⟨33, _⟩ => ⟨S16x4x4x2048x2048, .f32⟩
  | .hbm, ⟨34, _⟩ => ⟨S_, .f32⟩
  | .hbm, ⟨35, _⟩ => ⟨S16x4x4x2048, .f32⟩
  | .hbm, ⟨36, _⟩ => ⟨S16x4x4x2048x1, .f32⟩
  | .hbm, ⟨37, _⟩ => ⟨S16x4x4x2048x1, .f32⟩
  | .hbm, ⟨38, _⟩ => ⟨S16x4x4x2048x1, .f32⟩
  | .hbm, ⟨39, _⟩ => ⟨S16x4x4x2048x1, .f32⟩
  | .hbm, ⟨40, _⟩ => ⟨S16x4x4x2048x1, .f32⟩
  | .hbm, ⟨41, _⟩ => ⟨S16x4x4x2048x2048, .f32⟩
  | .hbm, ⟨42, _⟩ => ⟨S16x4x4x2048x2048, .f32⟩
  | .hbm, ⟨43, _⟩ => ⟨S16x4x64x4x2048, .f32⟩
  | .hbm, ⟨44, _⟩ => ⟨S16x2048x4x4x64, .f32⟩
  | .hbm, ⟨45, _⟩ => ⟨S32768x1024, .f32⟩
  | .hbm, ⟨46, _⟩ => ⟨S32768x1024, .bf16⟩
  | _, _ => ⟨S16x2048x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== InKernel.lean ====
abbrev S16x2048x1024 : Shape := ⟨3, ![16, 2048, 1024]⟩
abbrev S1024 : Shape := ⟨1, ![1024]⟩
abbrev S1024x8768 : Shape := ⟨2, ![1024, 8768]⟩
abbrev S64 : Shape := ⟨1, ![64]⟩
abbrev S2048x32 : Shape := ⟨2, ![2048, 32]⟩
abbrev S128x128 : Shape := ⟨2, ![128, 128]⟩
abbrev S32768x1024 : Shape := ⟨2, ![32768, 1024]⟩
abbrev S1024x2048 : Shape := ⟨2, ![1024, 2048]⟩
abbrev S1024x3072 : Shape := ⟨2, ![1024, 3072]⟩
abbrev S1024x1024 : Shape := ⟨2, ![1024, 1024]⟩
abbrev S1024x256 : Shape := ⟨2, ![1024, 256]⟩
abbrev S1024x64 : Shape := ⟨2, ![1024, 64]⟩
abbrev S_ : Shape := ⟨0, ![]⟩
abbrev S1024x8832 : Shape := ⟨2, ![1024, 8832]⟩
abbrev S2048x128 : Shape := ⟨2, ![2048, 128]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32768x8832 : Shape := ⟨2, ![32768, 8832]⟩
abbrev S32768x128 : Shape := ⟨2, ![32768, 128]⟩
abbrev S32768x512 : Shape := ⟨2, ![32768, 512]⟩
abbrev S1024x2944 : Shape := ⟨2, ![1024, 2944]⟩
abbrev S1024x128 : Shape := ⟨2, ![1024, 128]⟩
abbrev S1024x512 : Shape := ⟨2, ![1024, 512]⟩
abbrev S1024x1 : Shape := ⟨2, ![1024, 1]⟩
abbrev S1024x384 : Shape := ⟨2, ![1024, 384]⟩

abbrev nBuf : Space → Nat
  | .hbm => 38
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x8768, .f32⟩
  | .hbm, ⟨3, _⟩ => ⟨S64, .f32⟩
  | .hbm, ⟨4, _⟩ => ⟨S64, .f32⟩
  | .hbm, ⟨5, _⟩ => ⟨S2048x32, .f32⟩
  | .hbm, ⟨6, _⟩ => ⟨S2048x32, .f32⟩
  | .hbm, ⟨7, _⟩ => ⟨S128x128, .bf16⟩
  | .hbm, ⟨8, _⟩ => ⟨S32768x1024, .f32⟩
  | .hbm, ⟨9, _⟩ => ⟨S1024x8768, .bf16⟩
  | .hbm, ⟨10, _⟩ => ⟨S1024x2048, .bf16⟩
  | .hbm, ⟨11, _⟩ => ⟨S1024x2048, .bf16⟩
  | .hbm, ⟨12, _⟩ => ⟨S1024x3072, .bf16⟩
  | .hbm, ⟨13, _⟩ => ⟨S1024x1024, .bf16⟩
  | .hbm, ⟨14, _⟩ => ⟨S1024x256, .bf16⟩
  | .hbm, ⟨15, _⟩ => ⟨S1024x256, .bf16⟩
  | .hbm, ⟨16, _⟩ => ⟨S1024x64, .bf16⟩
  | .hbm, ⟨17, _⟩ => ⟨S_, .bf16⟩
  | .hbm, ⟨18, _⟩ => ⟨S1024x64, .bf16⟩
  | .hbm, ⟨19, _⟩ => ⟨S1024x8832, .bf16⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S1x1024, .f32⟩
  | .hbm, ⟨25, _⟩ => ⟨S1x64, .f32⟩
  | .hbm, ⟨26, _⟩ => ⟨S2x64, .f32⟩
  | .hbm, ⟨27, _⟩ => ⟨S128, .f32⟩
  | .hbm, ⟨28, _⟩ => ⟨S1x128, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S32768x8832, .bf16⟩
  | .hbm, ⟨34, _⟩ => ⟨S32768x128, .f32⟩
  | .hbm, ⟨35, _⟩ => ⟨S32768x1024, .bf16⟩
  | .hbm, ⟨36, _⟩ => ⟨S32768x512, .bf16⟩
  | .hbm, ⟨37, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2944, .bf16⟩
  | .local _ .vmem, ⟨4, _⟩ => ⟨S1024x2944, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x128, .f32⟩
  | .local _ .vmem, ⟨10, _⟩ => ⟨S1x128, .f32⟩
  | .local _ .vmem, ⟨11, _⟩ => ⟨S128x128, .bf16⟩
  | .local _ .vmem, ⟨12, _⟩ => ⟨S1024x2944, .bf16⟩
  | .local _ .vmem, ⟨13, _⟩ => ⟨S1024x2944, .bf16⟩
  | .local _ .vmem, ⟨14, _⟩ => ⟨S1024x128, .f32⟩
  | .local _ .vmem, ⟨15, _⟩ => ⟨S1024x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![32, 3], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .eq arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2944 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== InKernelIdeal.lean ====
variable {F : FTy → Type} [FloatOps F] [Named F]
def κ : String → Option EReal := fun
  | "scale" => some (((Real.log 256)⁻¹ : ℝ) : EReal)
  | _ => none
-- ==== InReferenceIdeal.lean ====
abbrev S16x2048x1024 : Shape := ⟨3, ![16, 2048, 1024]⟩
abbrev S1024 : Shape := ⟨1, ![1024]⟩
abbrev S1024x8768 : Shape := ⟨2, ![1024, 8768]⟩
abbrev S64 : Shape := ⟨1, ![64]⟩
abbrev S2048x32 : Shape := ⟨2, ![2048, 32]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x8768 : Shape := ⟨3, ![16, 2048, 8768]⟩
abbrev S16x2048x256 : Shape := ⟨3, ![16, 2048, 256]⟩
abbrev S16x2048x2048 : Shape := ⟨3, ![16, 2048, 2048]⟩
abbrev S16x2048x3072 : Shape := ⟨3, ![16, 2048, 3072]⟩
abbrev S16x2048x32 : Shape := ⟨3, ![16, 2048, 32]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S1x2048x1x32 : Shape := ⟨4, ![1, 2048, 1, 32]⟩
abbrev S16x2048x16x32 : Shape := ⟨4, ![16, 2048, 16, 32]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x4x32 : Shape := ⟨4, ![16, 2048, 4, 32]⟩
abbrev S16x2048x64 : Shape := ⟨3, ![16, 2048, 64]⟩
abbrev S16x2048x8832 : Shape := ⟨3, ![16, 2048, 8832]⟩
abbrev S16x2048x128 : Shape := ⟨3, ![16, 2048, 128]⟩
abbrev S16x2048x4x1x64 : Shape := ⟨5, ![16, 2048, 4, 1, 64]⟩
abbrev S16x2048x4x2x64 : Shape := ⟨5, ![16, 2048, 4, 2, 64]⟩
abbrev S32768x8832 : Shape := ⟨2, ![32768, 8832]⟩
abbrev S32768x128 : Shape := ⟨2, ![32768, 128]⟩
abbrev S32768x1024 : Shape := ⟨2, ![32768, 1024]⟩
abbrev S32768x512 : Shape := ⟨2, ![32768, 512]⟩

abbrev nBuf : Space → Nat
  | .hbm => 121
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x8768, .f32⟩
  | .hbm, ⟨3, _⟩ => ⟨S64, .f32⟩
  | .hbm, ⟨4, _⟩ => ⟨S64, .f32⟩
  | .hbm, ⟨5, _⟩ => ⟨S2048x32, .f32⟩
  | .hbm, ⟨6, _⟩ => ⟨S2048x32, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x8768, .f32⟩
  | .hbm, ⟨24, _⟩ => ⟨S16x2048x1024, .f32⟩
  | .hbm, ⟨25, _⟩ => ⟨S16x2048x256, .f32⟩
  | .hbm, ⟨26, _⟩ => ⟨S16x2048x256, .f32⟩
  | .hbm, ⟨27, _⟩ => ⟨S16x2048x2048, .f32⟩
  | .hbm, ⟨28, _⟩ => ⟨S16x2048x3072, .f32⟩
  | .hbm, ⟨29, _⟩ => ⟨S16x2048x32, .f32⟩
  | .hbm, ⟨30, _⟩ => ⟨S16x2048x32, .f32⟩
  | .hbm, ⟨31, _⟩ => ⟨S16x2048x1024, .f32⟩
  | .hbm, ⟨32, _⟩ => ⟨S16x2048x1024, .f32⟩
  | .hbm, ⟨33, _⟩ => ⟨S16x2048x16x64, .f32⟩
  | .hbm, ⟨34, _⟩ => ⟨S16x2048x16x64, .f32⟩
  | .hbm, ⟨35, _⟩ => ⟨S_, .f32⟩
  | .hbm, ⟨36, _⟩ => ⟨S16x2048x16, .f32⟩
  | .hbm, ⟨37, _⟩ => ⟨S16x2048x16x1, .f32⟩
  | .hbm, ⟨38, _⟩ => ⟨S_, .f32⟩
  | .hbm, ⟨39, _⟩ => ⟨S16x2048x16x1, .f32⟩
  | .hbm, ⟨40, _⟩ => ⟨S16x2048x16x1, .f32⟩
  | .hbm, ⟨41, _⟩ => ⟨S_, .f32⟩
  | .hbm, ⟨42, _⟩ => ⟨S16x2048x16x1, .f32⟩
  | .hbm, ⟨43, _⟩ => ⟨S16x2048x16x1, .f32⟩
  | .hbm, ⟨44, _⟩ => ⟨S16x2048x16x1, .f32⟩
  | .hbm, ⟨45, _⟩ => ⟨S16x2048x16x64, .f32⟩
  | .hbm, ⟨46, _⟩ => ⟨S16x2048x16x64, .f32⟩
  | .hbm, ⟨47, _⟩ => ⟨S1x1x1x64, .f32⟩
  | .hbm, ⟨48, _⟩ => ⟨S16x2048x16x64, .f32⟩
  | .hbm, ⟨49, _⟩ => ⟨S16x2048x16x64, .f32⟩
  | .hbm, ⟨50, _⟩ => ⟨S1x2048x1x32, .f32⟩
  | .hbm, ⟨51, _⟩ => ⟨S1x2048x1x32, .f32⟩
  | .hbm, ⟨52, _⟩ => ⟨S16x2048x16x32, .f32⟩
  | .hbm, ⟨53, _⟩ => ⟨S16x2048x16x32, .f32⟩
  | .hbm, ⟨54, _⟩ => ⟨S16x2048x16x32, .f32⟩
  | .hbm, ⟨55, _⟩ => ⟨S16x2048x16x32, .f32⟩
  | .hbm, ⟨56, _⟩ => ⟨S16x2048x16x32, .f32⟩
  | .hbm, ⟨57, _⟩ => ⟨S16x2048x16x32, .f32⟩
  | .hbm, ⟨58, _⟩ => ⟨S16x2048x16x32, .f32⟩
  | .hbm, ⟨59, _⟩ => ⟨S16x2048x16x32, .f32⟩
  | .hbm, ⟨60, _⟩ => ⟨S16x2048x16x32, .f32⟩
  | .hbm, ⟨61, _⟩ => ⟨S16x2048x16x32, .f32⟩
  | .hbm, ⟨62, _⟩ => ⟨S16x2048x16x32, .f32⟩
  | .hbm, ⟨63, _⟩ => ⟨S16x2048x16x32, .f32⟩
  | .hbm, ⟨64, _⟩ => ⟨S16x2048x16x64, .f32⟩
  | .hbm, ⟨65, _⟩ => ⟨S16x2048x4x64, .f32⟩
  | .hbm, ⟨66, _⟩ => ⟨S16x2048x4x64, .f32⟩
  | .hbm, ⟨67, _⟩ => ⟨S_, .f32⟩
  | .hbm, ⟨68, _⟩ => ⟨S16x2048x4, .f32⟩
  | .hbm, ⟨69, _⟩ => ⟨S16x2048x4x1, .f32⟩
  | .hbm, ⟨70, _⟩ => ⟨S_, .f32⟩
  | .hbm, ⟨71, _⟩ => ⟨S16x2048x4x1, .f32⟩
  | .hbm, ⟨72, _⟩ => ⟨S16x2048x4x1, .f32⟩
  | .hbm, ⟨73, _⟩ => ⟨S_, .f32⟩
  | .hbm, ⟨74, _⟩ => ⟨S16x2048x4x1, .f32⟩
  | .hbm, ⟨75, _⟩ => ⟨S16x2048x4x1, .f32⟩
  | .hbm, ⟨76, _⟩ => ⟨S16x2048x4x1, .f32⟩
  | .hbm, ⟨77, _⟩ => ⟨S16x2048x4x64, .f32⟩
  | .hbm, ⟨78, _⟩ => ⟨S16x2048x4x64, .f32⟩
  | .hbm, ⟨79, _⟩ => ⟨S1x1x1x64, .f32⟩
  | .hbm, ⟨80, _⟩ => ⟨S16x2048x4x64, .f32⟩
  | .hbm, ⟨81, _⟩ => ⟨S16x2048x4x64, .f32⟩
  | .hbm, ⟨82, _⟩ => ⟨S1x2048x1x32, .f32⟩
  | .hbm, ⟨83, _⟩ => ⟨S1x2048x1x32, .f32⟩
  | .hbm, ⟨84, _⟩ => ⟨S16x2048x4x32, .f32⟩
  | .hbm, ⟨85, _⟩ => ⟨S16x2048x4x32, .f32⟩
  | .hbm, ⟨86, _⟩ => ⟨S16x2048x4x32, .f32⟩
  | .hbm, ⟨87, _⟩ => ⟨S16x2048x4x32, .f32⟩
  | .hbm, ⟨88, _⟩ => ⟨S16x2048x4x32, .f32⟩
  | .hbm, ⟨89, _⟩ => ⟨S16x2048x4x32, .f32⟩
  | .hbm, ⟨90, _⟩ => ⟨S16x2048x4x32, .f32⟩
  | .hbm, ⟨91, _⟩ => ⟨S16x2048x4x32, .f32⟩
  | .hbm, ⟨92, _⟩ => ⟨S16x2048x4x32, .f32⟩
  | .hbm, ⟨93, _⟩ => ⟨S16x2048x4x32, .f32⟩
  | .hbm, ⟨94, _⟩ => ⟨S16x2048x4x32, .f32⟩
  | .hbm, ⟨95, _⟩ => ⟨S16x2048x4x32, .f32⟩
  | .hbm, ⟨96, _⟩ => ⟨S16x2048x4x64, .f32⟩
  | .hbm, ⟨97, _⟩ => ⟨S_, .f32⟩
  | .hbm, ⟨98, _⟩ => ⟨S16x2048x64, .f32⟩
  | .hbm, ⟨99, _⟩ => ⟨S16x2048x8832, .f32⟩
  | .hbm, ⟨100, _⟩ => ⟨S16x2048x128, .f32⟩
  | .hbm, ⟨101, _⟩ => ⟨S_, .f32⟩
  | .hbm, ⟨102, _⟩ => ⟨S_, .f32⟩
  | .hbm, ⟨103, _⟩ => ⟨S16x2048x4x1x64, .f32⟩
  | .hbm, ⟨104, _⟩ => ⟨S16x2048x4x2x64, .f32⟩
  | .hbm, ⟨105, _⟩ => ⟨S16x2048x4x1x64, .f32⟩
  | .hbm, ⟨106, _⟩ => ⟨S16x2048x4x2x64, .f32⟩
  | .hbm, ⟨107, _⟩ => ⟨S32768x8832, .f32⟩
  | .hbm, ⟨108, _⟩ => ⟨S32768x8832, .bf16⟩
  | .hbm, ⟨109, _⟩ => ⟨S32768x128, .f32⟩
  | .hbm, ⟨110, _⟩ => ⟨S_, .f32⟩
  | .hbm, ⟨111, _⟩ => ⟨S16x2048x16x64, .f32⟩
  | .hbm, ⟨112, _⟩ => ⟨S16x2048x16x64, .f32⟩
  | .hbm, ⟨113, _⟩ => ⟨S16x2048x16x64, .f32⟩
  | .hbm, ⟨114, _⟩ => ⟨S16x2048x16x64, .f32⟩
  | .hbm, ⟨115, _⟩ => ⟨S32768x1024, .f32⟩
  | .hbm, ⟨116, _⟩ => ⟨S32768x1024, .bf16⟩
  | .hbm, ⟨117, _⟩ => ⟨S32768x512, .f32⟩
  | .hbm, ⟨118, _⟩ => ⟨S32768x512, .bf16⟩
  | .hbm, ⟨119, _⟩ => ⟨S32768x512, .f32⟩
  | .hbm, ⟨120, _⟩ => ⟨S32768x512, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_8 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_9 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_10 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩

abbrev nD : Nat := 1
abbrev τ : Topo := Topo.v7x

variable {F : FTy → Type} [FloatOps F]
-- ==== OutKernel.lean ====
abbrev S32768x1024 : Shape := ⟨2, ![32768, 1024]⟩
abbrev S32768x2048 : Shape := ⟨2, ![32768, 2048]⟩
abbrev S32768x8832 : Shape := ⟨2, ![32768, 8832]⟩
abbrev S16x2048x1024 : Shape := ⟨3, ![16, 2048, 1024]⟩
abbrev S16384x1024 : Shape := ⟨2, ![16384, 1024]⟩
abbrev S16384x2048 : Shape := ⟨2, ![16384, 2048]⟩
abbrev S16384x8832 : Shape := ⟨2, ![16384, 8832]⟩
abbrev S4x4096x1024 : Shape := ⟨3, ![4, 4096, 1024]⟩
abbrev S1024x1024 : Shape := ⟨2, ![1024, 1024]⟩
abbrev S2048x1024 : Shape := ⟨2, ![2048, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S393216x128 : Shape := ⟨2, ![393216, 128]⟩
abbrev S8x49152 : Shape := ⟨2, ![8, 49152]⟩
abbrev S512x1024 : Shape := ⟨2, ![512, 1024]⟩
abbrev S512x2048 : Shape := ⟨2, ![512, 2048]⟩
abbrev S4096x128 : Shape := ⟨2, ![4096, 128]⟩
abbrev S8x512 : Shape := ⟨2, ![8, 512]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S8x256 : Shape := ⟨2, ![8, 256]⟩

abbrev nBuf : Space → Nat
  | .hbm => 35
  | .vmem => 27
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x8832, .bf16⟩
  | .hbm, ⟨3, _⟩ => ⟨S16x2048x1024, .f32⟩
  | .hbm, ⟨4, _⟩ => ⟨S16384x1024, .bf16⟩
  | .hbm, ⟨5, _⟩ => ⟨S16384x2048, .bf16⟩
  | .hbm, ⟨6, _⟩ => ⟨S16384x8832, .bf16⟩
  | .hbm, ⟨7, _⟩ => ⟨S4x4096x1024, .f32⟩
  | .hbm, ⟨8, _⟩ => ⟨S1024x1024, .f32⟩
  | .hbm, ⟨9, _⟩ => ⟨S2048x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S_, .f32⟩
  | .hbm, ⟨17, _⟩ => ⟨S1024x92, .f32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S_, .f32⟩
  | .hbm, ⟨24, _⟩ => ⟨S92, .f32⟩
  | .hbm, ⟨25, _⟩ => ⟨S128, .f32⟩
  | .hbm, ⟨26, _⟩ => ⟨S1x128, .f32⟩
  | .hbm, ⟨27, _⟩ => ⟨S32768x1024, .f32⟩
  | .hbm, ⟨28, _⟩ => ⟨S16384x1024, .f32⟩
  | .hbm, ⟨29, _⟩ => ⟨S1024x1024, .bf16⟩
  | .hbm, ⟨30, _⟩ => ⟨S2048x1024, .bf16⟩
  | .hbm, ⟨31, _⟩ => ⟨S1024x1024, .bf16⟩
  | .hbm, ⟨32, _⟩ => ⟨S1x1024, .f32⟩
  | .hbm, ⟨33, _⟩ => ⟨S393216x128, .f32⟩
  | .hbm, ⟨34, _⟩ => ⟨S8x49152, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .f32⟩
  | .local _ .vmem, ⟨15, _⟩ => ⟨S512x1024, .f32⟩
  | .local _ .vmem, ⟨16, _⟩ => ⟨S1024x1024, .bf16⟩
  | .local _ .vmem, ⟨17, _⟩ => ⟨S2048x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x128, .bf16⟩
  | .local _ .vmem, ⟨21, _⟩ => ⟨S1024x128, .bf16⟩
  | .local _ .vmem, ⟨22, _⟩ => ⟨S1x128, .f32⟩
  | .local _ .vmem, ⟨23, _⟩ => ⟨S4096x128, .f32⟩
  | .local _ .vmem, ⟨24, _⟩ => ⟨S4096x128, .f32⟩
  | .local _ .vmem, ⟨25, _⟩ => ⟨S8x512, .f32⟩
  | .local _ .vmem, ⟨26, _⟩ => ⟨S8x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c1_i32 : BitVec 32 := 1#32
  let c0_i32_0 : BitVec 32 := 0#32
  ![v1.toNat, c1_i32.toNat]

def cc0_transform_7 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutReferenceIdeal.lean ====
abbrev S32768x1024 : Shape := ⟨2, ![32768, 1024]⟩
abbrev S32768x2048 : Shape := ⟨2, ![32768, 2048]⟩
abbrev S32768x8832 : Shape := ⟨2, ![32768, 8832]⟩
abbrev S16x2048x1024 : Shape := ⟨3, ![16, 2048, 1024]⟩
abbrev S16384x1024 : Shape := ⟨2, ![16384, 1024]⟩
abbrev S16384x2048 : Shape := ⟨2, ![16384, 2048]⟩
abbrev S16384x8832 : Shape := ⟨2, ![16384, 8832]⟩
abbrev S4x4096x1024 : Shape := ⟨3, ![4, 4096, 1024]⟩
abbrev S1024x1024 : Shape := ⟨2, ![1024, 1024]⟩
abbrev S2048x1024 : Shape := ⟨2, ![2048, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S16x2048x2048 : Shape := ⟨3, ![16, 2048, 2048]⟩
abbrev S_ : Shape := ⟨0, ![]⟩
abbrev S4x4096x2048 : Shape := ⟨3, ![4, 4096, 2048]⟩
abbrev S262144x128 : Shape := ⟨2, ![262144, 128]⟩
abbrev S131072x128 : Shape := ⟨2, ![131072, 128]⟩
abbrev S393216x128 : Shape := ⟨2, ![393216, 128]⟩

abbrev nBuf : Space → Nat
  | .hbm => 83
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x8832, .bf16⟩
  | .hbm, ⟨3, _⟩ => ⟨S16x2048x1024, .f32⟩
  | .hbm, ⟨4, _⟩ => ⟨S16384x1024, .bf16⟩
  | .hbm, ⟨5, _⟩ => ⟨S16384x2048, .bf16⟩
  | .hbm, ⟨6, _⟩ => ⟨S16384x8832, .bf16⟩
  | .hbm, ⟨7, _⟩ => ⟨S4x4096x1024, .f32⟩
  | .hbm, ⟨8, _⟩ => ⟨S1024x1024, .f32⟩
  | .hbm, ⟨9, _⟩ => ⟨S2048x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S32768x2048, .bf16⟩
  | .hbm, ⟨17, _⟩ => ⟨S32768x2048, .f32⟩
  | .hbm, ⟨18, _⟩ => ⟨S16x2048x2048, .f32⟩
  | .hbm, ⟨19, _⟩ => ⟨S16x2048x1024, .f32⟩
  | .hbm, ⟨20, _⟩ => ⟨S16x2048x1024, .f32⟩
  | .hbm, ⟨21, _⟩ => ⟨S32768x1024, .f32⟩
  | .hbm, ⟨22, _⟩ => ⟨S16x2048x1024, .f32⟩
  | .hbm, ⟨23, _⟩ => ⟨S16x2048x1024, .f32⟩
  | .hbm, ⟨24, _⟩ => ⟨S32768x2048, .f32⟩
  | .hbm, ⟨25, _⟩ => ⟨S16x2048x2048, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16384x2048, .bf16⟩
  | .hbm, ⟨49, _⟩ => ⟨S16384x2048, .f32⟩
  | .hbm, ⟨50, _⟩ => ⟨S4x4096x2048, .f32⟩
  | .hbm, ⟨51, _⟩ => ⟨S4x4096x1024, .f32⟩
  | .hbm, ⟨52, _⟩ => ⟨S4x4096x1024, .f32⟩
  | .hbm, ⟨53, _⟩ => ⟨S16384x1024, .f32⟩
  | .hbm, ⟨54, _⟩ => ⟨S4x4096x1024, .f32⟩
  | .hbm, ⟨55, _⟩ => ⟨S4x4096x1024, .f32⟩
  | .hbm, ⟨56, _⟩ => ⟨S16384x2048, .f32⟩
  | .hbm, ⟨57, _⟩ => ⟨S4x4096x2048, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S_, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S262144x128, .f32⟩
  | .hbm, ⟨81, _⟩ => ⟨S131072x128, .f32⟩
  | .hbm, ⟨82, _⟩ => ⟨S393216x128, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Proof.Soft.lean ====
/- The softmax over extended reals with one more term in its denominator, the sink: whatever real number is taken off the
   scores before they are raised, the weights are `e^x / (∑ e^x + e^z)`; in base 2 over scores divided by `log 2` they
   are the same; and a sum over a window of keys is the sum over all keys where the others' terms are zero. -/
module

public import Idealize.ShloMosaic.Adequacy
public import Idealize.ShloMosaic.Init
public import Idealize.ShloMosaic.Lib.Pointwise

@[expose] public section

noncomputable section

namespace Cert.Proof.Soft

open Idealize.ShloMosaic

variable {ι : Type*} [Fintype ι]

/-- The unnormalised weight `e^x` of a score. -/
def weight (x : EReal) : ℝ := (Ideal.exp x).toReal

theorem weight_bot : weight ⊥ = 0 := by simp [weight]

theorem weight_coe (r : ℝ) : weight r = Real.exp r := by simp [weight]

theorem weight_nonneg (x : EReal) (h : x ≠ ⊤) : 0 ≤ weight x := by
  induction x with
  | bot => simp [weight_bot]
  | coe r => rw [weight_coe]; positivity
  | top => exact absurd rfl h

/-- `e^(x - m)` of a score that may be minus infinity. -/
theorem exp_sub (x : EReal) (h : x ≠ ⊤) (m : ℝ) : Ideal.exp (x - m) = ((weight x * Real.exp (-m) : ℝ) : EReal) := by
  induction x with
  | bot => simp [weight_bot]
  | coe r => rw [← EReal.coe_sub, Ideal.exp_coe, weight_coe, ← Real.exp_add, sub_eq_add_neg]
  | top => exact absurd rfl h

/-- `2^(x / log 2 - m)` is `e^x` up to the factor `2^(-m)`. -/
theorem exp2_sub (x : EReal) (h : x ≠ ⊤) (m : ℝ) :
    Ideal.exp2 (x * ((Real.log 2)⁻¹ : ℝ) - m) = ((weight x * Real.exp (-(m * Real.log 2)) : ℝ) : EReal) := by
  have h2 : (0 : ℝ) < Real.log 2 := Real.log_pos (by norm_num)
  induction x with
  | bot => rw [EReal.bot_mul_coe_of_pos (inv_pos.2 h2)]; simp [weight_bot]
  | coe r =>
    rw [← EReal.coe_mul, ← EReal.coe_sub, Ideal.exp2_coe, weight_coe, ← Real.exp_add]
    congr 1
    show (2 : ℝ) ^ (_ : ℝ) = _
    rw [Real.rpow_def_of_pos (by norm_num)]
    congr 1
    field_simp
    ring
  | top => exact absurd rfl h

theorem coe_sum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A real factor that is not negative goes into a sum of extended reals. -/
theorem sum_mul_coe (f : ι → EReal) (c : ℝ) (hc : 0 ≤ c) : (∑ i, f i) * (c : EReal) = ∑ i, f i * (c : EReal) := by
  classical
  induction (Finset.univ : Finset ι) using Finset.induction_on with
  | empty => simp
  | insert a s ha ih =>
    rw [Finset.sum_insert ha, Finset.sum_insert ha, ← ih, mul_comm _ (c : EReal), mul_comm (f a), mul_comm (∑ i ∈ s, f i)]
    exact EReal.left_distrib_of_nonneg_of_ne_top (by exact_mod_cast hc) (EReal.coe_ne_top c) _ _

/-- The denominator: the weights of all keys, and the sink's. -/
def den (x : ι → EReal) (z : ℝ) : ℝ := ∑ i, weight (x i) + Real.exp z

theorem den_pos (x : ι → EReal) (h : ∀ i, x i ≠ ⊤) (z : ℝ) : 0 < den x z :=
  add_pos_of_nonneg_of_pos (Finset.sum_nonneg fun i _ => weight_nonneg _ (h i)) (Real.exp_pos z)

theorem exp_den (x : ι → EReal) (h : ∀ i, x i ≠ ⊤) (z m : ℝ) :
    ∑ i, Ideal.exp (x i - m) + Ideal.exp ((z : EReal) - m) = ((den x z * Real.exp (-m) : ℝ) : EReal) := by
  simp only [exp_sub _ (h _), exp_sub _ (EReal.coe_ne_top z), ← coe_sum, ← EReal.coe_add, weight_coe, den]
  rw [add_mul, Finset.sum_mul]

theorem exp2_den (x : ι → EReal) (h : ∀ i, x i ≠ ⊤) (z m : ℝ) :
    ∑ i, Ideal.exp2 (x i * ((Real.log 2)⁻¹ : ℝ) - m) + Ideal.exp2 ((z : EReal) * ((Real.log 2)⁻¹ : ℝ) - m)
      = ((den x z * Real.exp (-(m * Real.log 2)) : ℝ) : EReal) := by
  simp only [exp2_sub _ (h _), exp2_sub _ (EReal.coe_ne_top z), ← coe_sum, ← EReal.coe_add, weight_coe, den]
  rw [add_mul, Finset.sum_mul]

/-- The normalised weight, whatever real `m` was taken off the scores. -/
theorem soft_weight (x : ι → EReal) (h : ∀ i, x i ≠ ⊤) (z m : ℝ) (i : ι) :
    Ideal.div (Ideal.exp (x i - m)) (∑ i, Ideal.exp (x i - m) + Ideal.exp ((z : EReal) - m))
      = ((weight (x i) / den x z : ℝ) : EReal) := by
  have hd := den_pos x h z
  have he := Real.exp_pos (-m)
  rw [exp_den x h, exp_sub _ (h i), Ideal.div_coe (by positivity), ← EReal.coe_mul]
  congr 1
  field_simp

/-- Weighing first and dividing afterwards, in base 2, gives the values weighed by the normalised weights. -/
theorem soft_sum (x : ι → EReal) (h : ∀ i, x i ≠ ⊤) (z m : ℝ) (v : ι → EReal) :
    (∑ i, Ideal.exp2 (x i * ((Real.log 2)⁻¹ : ℝ) - m) * v i)
        * Ideal.div 1 (∑ i, Ideal.exp2 (x i * ((Real.log 2)⁻¹ : ℝ) - m)
            + Ideal.exp2 ((z : EReal) * ((Real.log 2)⁻¹ : ℝ) - m))
      = ∑ i, v i * ((weight (x i) / den x z : ℝ) : EReal) := by
  have hd := den_pos x h z
  have he := Real.exp_pos (-(m * Real.log 2))
  rw [exp2_den x h, Ideal.div_coe (by positivity), one_mul, sum_mul_coe _ _ (by positivity)]
  refine Finset.sum_congr rfl fun i _ => ?_
  rw [exp2_sub _ (h i), mul_comm _ (v i), mul_assoc, ← EReal.coe_mul]
  congr 2
  field_simp

/-- The greatest of the scores and a real number is a real number. -/
theorem max_real (x : ι → EReal) (h : ∀ i, x i ≠ ⊤) (z : ℝ) :
    ∃ m : ℝ, max (Finset.univ.fold max ⊥ x) (z : EReal) = (m : EReal) := by
  have ht : max (Finset.univ.fold max ⊥ x) (z : EReal) < ⊤ :=
    max_lt (Finset.fold_max_lt ⊤ |>.2 ⟨bot_lt_top, fun i _ => lt_top_iff_ne_top.2 (h i)⟩) (EReal.coe_lt_top z)
  have hb : max (Finset.univ.fold max ⊥ x) (z : EReal) ≠ ⊥ :=
    ne_of_gt (lt_of_lt_of_le (EReal.bot_lt_coe z) (le_max_right _ _))
  exact ⟨_, (EReal.coe_toReal ht.ne hb).symm⟩

/-- A sum over `W` places, place `s` holding key `B + s - P`, is the sum over the `N` keys: a place with no key adds
    nothing, and neither does a key with no place. -/
theorem window_sum {M : Type*} [AddCommMonoid M] {W N : ℕ} (B P : ℕ) (f : Fin W → M) (g : Fin N → M)
    (hin : ∀ (s : Fin W) (n : Fin N), n.val + P = B + s.val → f s = g n)
    (hout : ∀ s : Fin W, (∀ n : Fin N, n.val + P ≠ B + s.val) → f s = 0)
    (hkey : ∀ n : Fin N, (∀ s : Fin W, n.val + P ≠ B + s.val) → g n = 0) : ∑ s, f s = ∑ n, g n := by
  have hf : ∀ s, f s = ∑ n : Fin N, if n.val + P = B + s.val then g n else 0 := by
    intro s
    by_cases h : ∃ n : Fin N, n.val + P = B + s.val
    · obtain ⟨n, hn⟩ := h
      rw [Finset.sum_eq_single n, if_pos hn, hin s n hn]
      · intro n' _ hne
        exact if_neg fun hn' => hne (Fin.ext (by omega))
      · simp
    · push Not at h
      rw [hout s h, Finset.sum_eq_zero fun n _ => if_neg (h n)]
  have hg : ∀ n, g n = ∑ s : Fin W, if n.val + P = B + s.val then g n else 0 := by
    intro n
    by_cases h : ∃ s : Fin W, n.val + P = B + s.val
    · obtain ⟨s, hs⟩ := h
      rw [Finset.sum_eq_single s, if_pos hs]
      · intro s' _ hne
        exact if_neg fun hs' => hne (Fin.ext (by omega))
      · simp
    · push Not at h
      rw [hkey n h]; simp
  rw [Finset.sum_congr rfl fun s _ => hf s, Finset.sum_comm]
  exact (Finset.sum_congr rfl fun n _ => hg n).symm

end Cert.Proof.Soft

end
-- ==== Proof.Attn.lean ====
/- The windowed attention with a sink of one head at one query position, over plain arrays of extended reals. -/
module

public import proofs.«01_k».proof.Proof.Soft

@[expose] public section

noncomputable section

namespace Cert.Proof.Attn

open Idealize.ShloMosaic Cert.Proof.Soft

/-- The queries: batch, position, key head, query head of that key head, lane. -/
abbrev Qs := (⟨5, ![16, 2048, 4, 4, 64]⟩ : Shape).Idx → EReal
/-- The keys and the values: batch, position, key head, lane. -/
abbrev Ks := (⟨4, ![16, 2048, 4, 64]⟩ : Shape).Idx → EReal
/-- The sinks, one for each query head. -/
abbrev Sinks := (⟨1, ![16]⟩ : Shape).Idx → EReal

/-- The score of key `n` for the query at `p`: minus infinity beyond 128 positions. -/
def score (q : Qs) (k : Ks) (b : Fin 16) (p : Fin 2048) (g h : Fin 4) (n : Fin 2048) : EReal :=
  if p.val ≤ n.val + 128 ∧ n.val ≤ p.val + 128 then
    (∑ d : Fin 64, k (ix4 b n g d) * q (ix5 b p g h d)) * ((1 / 8 : ℝ) : EReal)
  else ⊥

/-- Query head `h` of key head `g` among the sixteen. -/
def head (g h : Fin 4) : Fin 16 := ⟨g.val * 4 + h.val, by omega⟩

/-- The attention's result at lane `d`. -/
def attn (q : Qs) (k v : Ks) (z : Sinks) (b : Fin 16) (p : Fin 2048) (g h : Fin 4) (d : Fin 64) : EReal :=
  ∑ n, v (ix4 b n g d)
    * ((weight (score q k b p g h n) / den (score q k b p g h) (z (ix1 (head g h))).toReal : ℝ) : EReal)

/-- An array of real numbers. -/
def Real {ι : Type} (x : ι → EReal) : Prop := ∀ i, x i = ((x i).toReal : EReal)

theorem score_eq {q : Qs} {k : Ks} (hq : Real q) (hk : Real k) (b : Fin 16) (p : Fin 2048) (g h : Fin 4) (n : Fin 2048) :
    (∑ d : Fin 64, k (ix4 b n g d) * q (ix5 b p g h d))
      = ((∑ d : Fin 64, (k (ix4 b n g d)).toReal * (q (ix5 b p g h d)).toReal : ℝ) : EReal) := by
  rw [coe_sum]
  refine Finset.sum_congr rfl fun d _ => ?_
  rw [EReal.coe_mul, ← hq, ← hk]

theorem score_ne_top {q : Qs} {k : Ks} (hq : Real q) (hk : Real k) (b : Fin 16) (p : Fin 2048) (g h : Fin 4)
    (n : Fin 2048) : score q k b p g h n ≠ ⊤ := by
  unfold score
  split
  · rw [score_eq hq hk, ← EReal.coe_mul]; exact EReal.coe_ne_top _
  · exact bot_ne_top

end Cert.Proof.Attn

end
-- ==== Proof.Ref.lean ====
/- The reference's result, index by index: the attention of its arguments. -/
module

public import proofs.«01_k».proof.Proof.Gen.ReferenceIdeal.Run
public import proofs.«01_k».proof.Proof.Attn

@[expose] public section

noncomputable section

namespace Cert.Proof.Ref

open Idealize.ShloMosaic Cert.ReferenceIdeal Cert.ReferenceIdeal.Gen Idealize.SL.Sem Cert.Proof.Soft Cert.Proof.Attn

/-- The reference's mask, decided on 32-bit words, is the distance of two positions. -/
theorem mask_eq (p n : ℕ) (hp : p < 2048) (hn : n < 2048) :
    IntOp.cmpi .sle (IntOp.absi (IntOp.subi (BitVec.ofNat 32 p) (BitVec.ofNat 32 n))) 128#32
      = if p ≤ n + 128 ∧ n ≤ p + 128 then 1#1 else 0#1 := by
  have small : ∀ a : ℕ, a < 2048 → (BitVec.ofNat 32 a).toInt = a := fun a ha => by
    rw [BitVec.toInt_ofNat']; simp only [Int.bmod]; omega
  have hs : (IntOp.subi (BitVec.ofNat 32 p) (BitVec.ofNat 32 n)).toInt = (p : ℤ) - n := by
    unfold IntOp.subi
    rw [BitVec.toInt_sub, small p hp, small n hn]
    simp only [Int.bmod]; omega
  generalize IntOp.subi (BitVec.ofNat 32 p) (BitVec.ofNat 32 n) = x at hs
  have ha : (IntOp.absi x).toInt = |(p : ℤ) - n| := by
    unfold IntOp.absi
    by_cases h : x.msb = true
    · have hlt : x.toInt < 0 := by rw [BitVec.toInt_eq_msb_cond, if_pos h]; have := x.isLt; omega
      rw [if_pos h, BitVec.toInt_neg, hs, abs_of_neg (hs ▸ hlt)]
      simp only [Int.bmod]; omega
    · have hge : 0 ≤ x.toInt := by rw [BitVec.toInt_eq_msb_cond, if_neg h]; omega
      rw [if_neg h, hs, abs_of_nonneg (hs ▸ hge)]
  unfold IntOp.cmpi
  have h128 : (128#32).toInt = 128 := by decide
  have hc : |(p : ℤ) - n| ≤ 128 ↔ p ≤ n + 128 ∧ n ≤ p + 128 := by rw [abs_le]; omega
  simp only [BitVec.sle, ha, h128, hc]
  split_ifs with h <;> simp [h]

theorem eighth : Ideal.ofBits FTy.f32 1040187392#32 = ((1 / 8 : ℝ) : EReal) := by
  simp [Ideal.ofBits, Ideal.ieee, -EReal.coe_mul]; norm_num

theorem minus_inf : Ideal.ofBits FTy.f32 4286578688#32 = ⊥ := by
  simp [Ideal.ofBits, Ideal.ieee]

theorem minus_inf' : (id (constant (F := Ideal) S_ FTy.f32 4286578688#32) ix0 : EReal) = ⊥ := minus_inf

/-- The masked and scaled sum of products, as the reference writes it. -/
theorem select_score (q : Qs) (k : Ks) (b : Fin 16) (p : Fin 2048) (g h : Fin 4) (n : Fin 2048) :
    Scalar.select (α := EReal)
        (IntOp.cmpi .sle (IntOp.absi (IntOp.subi (BitVec.ofNat 32 p.val) (BitVec.ofNat 32 n.val))) 128#32)
        ((∑ d : Fin 64, k (ix4 b n g d) * q (ix5 b p g h d)) * Ideal.ofBits FTy.f32 1040187392#32)
        (id (constant (F := Ideal) S_ FTy.f32 4286578688#32) ix0)
      = score q k b p g h n := by
  rw [mask_eq _ _ p.isLt n.isLt, minus_inf', eighth]
  unfold score
  split <;> rfl

/-- The softmax with a sink, as the reference writes it. -/
theorem softmax {ι : Type} [Fintype ι] (v x : ι → EReal) (hx : ∀ i, x i ≠ ⊤) (z : EReal) (hz : z = (z.toReal : EReal)) :
    ∑ n, v n * Ideal.div (Ideal.exp (x n - max (Finset.univ.fold max (Ideal.ofBits FTy.f32 4286578688#32) x) z))
        (∑ n, Ideal.exp (x n - max (Finset.univ.fold max (Ideal.ofBits FTy.f32 4286578688#32) x) z)
          + Ideal.exp (z - max (Finset.univ.fold max (Ideal.ofBits FTy.f32 4286578688#32) x) z))
      = ∑ n, v n * ((weight (x n) / den x z.toReal : ℝ) : EReal) := by
  rw [minus_inf, hz]
  obtain ⟨m, hm⟩ := max_real x hx z.toReal
  rw [hm, EReal.toReal_coe]
  exact Finset.sum_congr rfl fun n _ => by rw [soft_weight x hx z.toReal m n]

/-- A maximum over the last of five axes. -/
theorem rowMax {a b c d n : ℕ} (x : FVec Ideal (⟨5, ![a, b, c, d, n]⟩ : Shape) .f32) (w : FVec Ideal S_ .f32)
    (h : (⟨5, ![a, b, c, d, n]⟩ : Shape).ReducesTo [4] (⟨4, ![a, b, c, d]⟩ : Shape)) (hu : 0 < S_.numel)
    (i : Fin a) (j : Fin b) (k : Fin c) (l : Fin d) :
    Host.reduce FloatOps.maximumf x w h hu (ix4 i j k l) = Finset.univ.fold max (w ix0) fun s : Fin n => x (ix5 i j k l s) := by
  pointwise
  rw [show Shape.Idx.first hu = ix0 from Subsingleton.elim _ _]

/-! The reference's term in four parts: the masked scores, their maximum with the sink, the weights, and the weights by
the values. -/

abbrev V5 := FVec Ideal S16x4x4x2048x2048 .f32

def masked (q : FVec Ideal S16x2048x4x4x64 .f32) (k : FVec Ideal S16x2048x4x64 .f32) : V5 :=
  select (broadcastInDim S16x4x4x2048x2048 ![3, 4] bcast_S2048x2048_S16x4x4x2048x2048_3_4 (cmpi .sle (absi (subi
      (broadcastInDim S2048x2048 ![0, 1] bcast_S2048x1_S2048x2048_0_1
        (broadcastInDim S2048x1 ![0] bcast_S2048_S2048x1_0 (iotaInDim S2048 32 0)))
      (broadcastInDim S2048x2048 ![0, 1] bcast_S1x2048_S2048x2048_0_1
        (broadcastInDim S1x2048 ![1] bcast_S2048_S1x2048_1 (iotaInDim S2048 32 0)))))
      (broadcastInDim S2048x2048 ![] bcast_S_S2048x2048 (constantI S_ 32 128#32))))
    (mulf (transpose S16x4x4x2048x2048 [0, 1, 4, 3, 2] (Host.dotGeneral dot_S16x2048x4x64_S16x2048x4x4x64_S16x4x2048x2048x4_3_4_1_13_02_02 none k q)
        transposes_S16x4x2048x2048x4_S16x4x4x2048x2048_0_1_4_3_2)
      (broadcastInDim S16x4x4x2048x2048 ![] bcast_S_S16x4x4x2048x2048 (constant S_ .f32 0x3E000000#32)))
    (broadcastInDim S16x4x4x2048x2048 ![] bcast_S_S16x4x4x2048x2048 (id (constant S_ .f32 0xFF800000#32)))

abbrev V1 := FVec Ideal S16x4x4x2048x1 .f32

def sinks (z : FVec Ideal S16 .f32) : FVec Ideal S1x4x4x1x1 .f32 :=
  broadcastInDim S1x4x4x1x1 ![1, 2] bcast_S4x4_S1x4x4x1x1_1_2 (shapeCast _ z shapeCasts_S16_S4x4)

def maxima (x : V5) : FVec Ideal S16x4x4x2048 .f32 :=
  Host.reduce FloatOps.maximumf x (constant S_ .f32 0xFF800000#32) reducesTo_S16x4x4x2048x2048_S16x4x4x2048_d4 h_S_

def top (x : V5) (z : FVec Ideal S1x4x4x1x1 .f32) : V1 :=
  maximumf (broadcastInDim S16x4x4x2048x1 ![0, 1, 2, 3] bcast_S16x4x4x2048_S16x4x4x2048x1_0_1_2_3 (maxima x))
    (broadcastInDim S16x4x4x2048x1 ![0, 1, 2, 3, 4] bcast_S1x4x4x1x1_S16x4x4x2048x1_0_1_2_3_4 z)

def raised (x : V5) (t : V1) : V5 :=
  Host.exp (subf x (broadcastInDim S16x4x4x2048x2048 ![0, 1, 2, 3, 4] bcast_S16x4x4x2048x1_S16x4x4x2048x2048_0_1_2_3_4 t))

def weights (e : V5) (t : V1) (z : FVec Ideal S1x4x4x1x1 .f32) : V5 :=
  Host.divf e (broadcastInDim S16x4x4x2048x2048 ![0, 1, 2, 3, 4] bcast_S16x4x4x2048x1_S16x4x4x2048x2048_0_1_2_3_4
    (addf (broadcastInDim S16x4x4x2048x1 ![0, 1, 2, 3] bcast_S16x4x4x2048_S16x4x4x2048x1_0_1_2_3
        (Host.reduceAdd e (constant S_ .f32 0x00000000#32) reducesTo_S16x4x4x2048x2048_S16x4x4x2048_d4 h_S_))
      (Host.exp (subf (broadcastInDim S16x4x4x2048x1 ![0, 1, 2, 3, 4] bcast_S1x4x4x1x1_S16x4x4x2048x1_0_1_2_3_4 z) t))))

def result (v : FVec Ideal S16x2048x4x64 .f32) (w : V5) : FVec Ideal S32768x1024 .bf16 :=
  truncf .bf16 (shapeCast _ (transpose S16x2048x4x4x64 [0, 4, 1, 3, 2] (Host.dotGeneral dot_S16x2048x4x64_S16x4x4x2048x2048_S16x4x64x4x2048_1_4_3_23_02_01 none v w)
    transposes_S16x4x64x4x2048_S16x2048x4x4x64_0_4_1_3_2) shapeCasts_S16x2048x4x4x64_S32768x1024) bitsLt_bf16_f32

theorem masked_apply (q : Qs) (k : Ks) (b : Fin 16) (p : Fin 2048) (g h : Fin 4) (n : Fin 2048) :
    masked q k (ix5 b g h p n) = score q k b p g h n := by
  refine Eq.trans ?_ (select_score q k b p g h n)
  unfold masked
  pointwise

theorem maxima_apply (x : V5) (b : Fin 16) (p : Fin 2048) (g h : Fin 4) :
    maxima x (ix4 b g h p)
      = Finset.univ.fold max (Ideal.ofBits FTy.f32 4286578688#32) fun n : Fin 2048 => x (ix5 b g h p n) :=
  rowMax x (constant S_ .f32 0xFF800000#32) reducesTo_S16x4x4x2048x2048_S16x4x4x2048_d4 h_S_ b g h p

theorem column_apply (y : FVec Ideal S16x4x4x2048 .f32) (b : Fin 16) (p : Fin 2048) (g h : Fin 4) :
    broadcastInDim S16x4x4x2048x1 ![0, 1, 2, 3] bcast_S16x4x4x2048_S16x4x4x2048x1_0_1_2_3 y (ix5 b g h p (0 : Fin 1))
      = y (ix4 b g h p) := by
  pointwise

theorem sinks_apply (z : Sinks) (b : Fin 16) (p : Fin 2048) (g h : Fin 4) :
    broadcastInDim S16x4x4x2048x1 ![0, 1, 2, 3, 4] bcast_S1x4x4x1x1_S16x4x4x2048x1_0_1_2_3_4 (sinks z)
        (ix5 b g h p (0 : Fin 1)) = z (ix1 (head g h)) := by
  unfold sinks
  pointwise
  rfl

theorem max_apply (x y : V1) (i : S16x4x4x2048x1.Idx) : maximumf x y i = max (x i) (y i) := rfl

theorem top_eq (x : V5) (z : Sinks) (b : Fin 16) (p : Fin 2048) (g h : Fin 4) :
    top x (sinks z) (ix5 b g h p (0 : Fin 1)) = max (maxima x (ix4 b g h p)) (z (ix1 (head g h))) := by
  unfold top
  rw [max_apply, column_apply, sinks_apply]

theorem top_apply (x : V5) (z : Sinks) (b : Fin 16) (p : Fin 2048) (g h : Fin 4) :
    top x (sinks z) (ix5 b g h p (0 : Fin 1))
      = max (Finset.univ.fold max (Ideal.ofBits FTy.f32 4286578688#32) fun n : Fin 2048 => x (ix5 b g h p n))
          (z (ix1 (head g h))) := by
  rw [top_eq, maxima_apply]

theorem raised_apply (x : V5) (t : V1) (b : Fin 16) (p : Fin 2048) (g h : Fin 4) (n : Fin 2048) :
    raised x t (ix5 b g h p n) = Ideal.exp (x (ix5 b g h p n) - t (ix5 b g h p (0 : Fin 1))) := by
  unfold raised
  pointwise

theorem weights_apply (e : V5) (t : V1) (z : Sinks) (b : Fin 16) (p : Fin 2048) (g h : Fin 4) (n : Fin 2048) :
    weights e t (sinks z) (ix5 b g h p n)
      = Ideal.div (e (ix5 b g h p n)) (∑ n : Fin 2048, e (ix5 b g h p n)
          + Ideal.exp (z (ix1 (head g h)) - t (ix5 b g h p (0 : Fin 1)))) := by
  unfold weights sinks
  pointwise
  rfl

theorem result_apply (v : Ks) (w : V5) (row : Fin 32768) (col : Fin 1024) :
    result v w (ix2 row col)
      = ∑ n : Fin 2048, v (ix4 (⟨row.val / 2048, by omega⟩ : Fin 16) n (⟨col.val / 256, by omega⟩ : Fin 4)
            (⟨col.val % 64, by omega⟩ : Fin 64))
          * w (ix5 (⟨row.val / 2048, by omega⟩ : Fin 16) (⟨col.val / 256, by omega⟩ : Fin 4)
            (⟨col.val / 64 % 4, by omega⟩ : Fin 4) (⟨row.val % 2048, by omega⟩ : Fin 2048) n) := by
  unfold result
  pointwise

theorem whole (m : (ℓ : Loc nD τ sig) → Buf (Elt Ideal) ℓ) (c : Dev nD) :
    Cert.ReferenceIdeal.Value.res_main_v34 m c
      = result (m (c.tc.loc main_arg2)) (weights
          (raised (masked (m (c.tc.loc main_arg0)) (m (c.tc.loc main_arg1)))
            (top (masked (m (c.tc.loc main_arg0)) (m (c.tc.loc main_arg1))) (sinks (m (c.tc.loc main_arg3)))))
          (top (masked (m (c.tc.loc main_arg0)) (m (c.tc.loc main_arg1))) (sinks (m (c.tc.loc main_arg3))))
          (sinks (m (c.tc.loc main_arg3)))) := rfl

theorem ref_apply (m : (ℓ : Loc nD τ sig) → Buf (Elt Ideal) ℓ) (c : Dev nD) (q : Qs) (k v : Ks) (z : Sinks)
    (eq : m (c.tc.loc main_arg0) = q) (ek : m (c.tc.loc main_arg1) = k) (ev : m (c.tc.loc main_arg2) = v)
    (ez : m (c.tc.loc main_arg3) = z) (hq : Attn.Real q) (hk : Attn.Real k) (hz : Attn.Real z)
    (row : Fin 32768) (col : Fin 1024) :
    Cert.ReferenceIdeal.Value.res_main_v34 m c (ix2 row col)
      = attn q k v z ⟨row.val / 2048, by omega⟩ ⟨row.val % 2048, by omega⟩ ⟨col.val / 256, by omega⟩
          ⟨col.val / 64 % 4, by omega⟩ ⟨col.val % 64, by omega⟩ := by
  rw [whole, eq, ek, ev, ez]
  refine (result_apply _ _ _ _).trans ?_
  simp only [weights_apply, raised_apply, top_apply, masked_apply]
  exact softmax _ _ (score_ne_top hq hk _ _ _ _) _ (hz _)

end Cert.Proof.Ref

end
-- ==== Proof.Tile.lean ====
/- What the attention kernel stores for query block `j`, key head `h` and pair of query heads `u` at a grid point: one
   function of the loaded blocks for all thirty-two stores, and the run's stores listed by it. -/
module

public import proofs.«01_k».proof.Proof.Gen.KernelIdeal.Frame

@[expose] public section

noncomputable section

namespace Cert.Proof.Tile

open Cert.KernelIdeal Cert.KernelIdeal.Gen Idealize.ShloMosaic Idealize.ShloMosaic.TcCoe Idealize.SL.Sem

variable {F : FTy → Type} [FloatOps F] [Named F]

theorem slices_window : ∀ j : Fin 4, S768x128.Slices ![128 * j.val, 0] S384x128 := by decide
theorem slices_scores : ∀ k : Fin 4, S512x384.Slices ![128 * k.val, 0] S128x384 := by decide
theorem slices_pair : ∀ u : Fin 2, S256x128.Slices ![128 * u.val, 0] S128x128 := by decide

/-- The 384 keys or values about query block `j`. -/
def window (j : Fin 4) (p : Vec F S128x128 .bf16) (c : Vec F S512x128 .bf16) (n : Vec F S128x128 .bf16) :
    FVec F S384x128 .bf16 :=
  extractStridedSlice S384x128 ![128 * j.val, 0]
    (concatenate S768x128 0 [⟨S128x128, shapeCast S128x128 p shapeCasts_S128x128_S128x128⟩,
      ⟨S512x128, shapeCast S512x128 c shapeCasts_S512x128_S512x128⟩,
      ⟨S128x128, shapeCast S128x128 n shapeCasts_S128x128_S128x128⟩]
      concatenates_S128x128_S512x128_S128x128_S768x128_d0) (slices_window j)

/-- The four query heads, each in its own half of the lanes: the low halves of both pairs, then the high halves. -/
def queries (a b : Vec F S128x128 .bf16) : FVec F S512x128 .bf16 :=
  concatenate S512x128 0
    [⟨S128x128, select k0_pay5 (shapeCast S128x128 a shapeCasts_S128x128_S128x128) k0_pay7⟩,
     ⟨S128x128, select k0_pay5 (shapeCast S128x128 b shapeCasts_S128x128_S128x128) k0_pay7⟩,
     ⟨S128x128, select k0_pay5 k0_pay7 (shapeCast S128x128 a shapeCasts_S128x128_S128x128)⟩,
     ⟨S128x128, select k0_pay5 k0_pay7 (shapeCast S128x128 b shapeCasts_S128x128_S128x128)⟩]
    concatenates_S128x128_S128x128_S128x128_S128x128_S512x128_d0

def scores (a b : Vec F S128x128 .bf16) (w : FVec F S384x128 .bf16) : FVec F S512x384 .f32 :=
  matmul dot_S512x128_S384x128_S512x384_1_1_0_0_n_n none (queries a b) w (constant S512x384 .f32 0x00000000#32)

/-- The bias of the 128 keys on the left. -/
def biasL (i : grid0.Coords) (j : Fin 4) : FVec F S128x384 .f32 := if j.val = 0 then k0_pay3 i else k0_pay2
/-- The bias of the 128 keys on the right. -/
def biasR (i : grid0.Coords) (j : Fin 4) : FVec F S128x384 .f32 := if j.val = 3 then k0_pay4 i else k0_pay2

/-- The scores of query head `k`, with the bias. -/
def biased (i : grid0.Coords) (j k : Fin 4) (s : FVec F S512x384 .f32) : FVec F S128x384 .f32 :=
  have t : FVec F S128x384 .f32 := extractStridedSlice S128x384 ![128 * k.val, 0] s (slices_scores k)
  concatenate S128x384 1
    [⟨S128x128, addf (extractStridedSlice S128x128 ![0, 0] t slices_S128x384_o0_0_S128x128)
      (extractStridedSlice S128x128 ![0, 0] (biasL i j) slices_S128x384_o0_0_S128x128)⟩,
     ⟨S128x128, extractStridedSlice S128x128 ![0, 128] t slices_S128x384_o0_128_S128x128⟩,
     ⟨S128x128, addf (extractStridedSlice S128x128 ![0, 256] t slices_S128x384_o0_256_S128x128)
      (extractStridedSlice S128x128 ![0, 256] (biasR i j) slices_S128x384_o0_256_S128x128)⟩]
    concatenates_S128x128_S128x128_S128x128_S128x384_d1

def snk (z : Elt F .f32) : F .f32 := Scalar.mulf z (Named.named κ "log2e" 0x3FB8AA3B#32)

def top (s : FVec F S128x384 .f32) (z : Elt F .f32) : FVec F S128x1 .f32 :=
  maximumf (shapeCast S128x1 (multiReduction .maximumf [1] S128 s 0xFF800000#32 reduces_S128x384_S128 (.inl rfl) rfl)
    shapeCasts_S128_S128x1) (broadcast S128x1 (snk z))

def prob (s : FVec F S128x384 .f32) (z : Elt F .f32) : FVec F S128x384 .f32 :=
  exp2 (subf s (broadcastTo S128x384 (top s z) broadcasts_S128x1_S128x384))

def inv (s : FVec F S128x384 .f32) (z : Elt F .f32) : FVec F S128x1 .f32 :=
  divf (broadcast S128x1 (Scalar.ofBits .f32 0x3F800000#32))
    (addf (shapeCast S128x1 (multiReduction .add [1] S128 (prob s z) 0x00000000#32 reduces_S128x384_S128 (.inl rfl) rfl)
        shapeCasts_S128_S128x1)
      (exp2 (subf (broadcast S128x1 (snk z)) (top s z))))

/-- The weights of the two query heads `s`, `t` by one half of the value lanes. -/
def weighed (s t : FVec F S128x384 .f32) (y z : Elt F .f32) (v : FVec F S384x128 .bf16) : FVec F S256x128 .f32 :=
  matmul dot_S256x384_S384x128_S256x128_1_0_0_1_n_n none
    (concatenate S256x384 0 [⟨S128x384, truncf .bf16 (prob s y) bitsLt_bf16_f32⟩,
      ⟨S128x384, truncf .bf16 (prob t z) bitsLt_bf16_f32⟩] concatenates_S128x384_S128x384_S256x384_d0) v
    (constant S256x128 .f32 0x00000000#32)

/-- Query head of pair `u`: in the low lanes, and in the high lanes. -/
def low (u : Fin 2) : Fin 4 := ⟨u.val, by omega⟩
def high (u : Fin 2) : Fin 4 := ⟨2 + u.val, by omega⟩

/-- The stored tile: `s k` the biased scores of head `k`, `z k` its sink, `w` the values about the block. -/
def stored (s : Fin 4 → FVec F S128x384 .f32) (z : Fin 4 → Elt F .f32) (w : FVec F S384x128 .bf16) (u : Fin 2) :
    FVec F S128x128 .bf16 :=
  truncf .bf16
    (mulf
      (extractStridedSlice S128x128 ![128 * u.val, 0]
        (addf (weighed (s 0) (s 1) (z 0) (z 1) (select k0_pay6 w k0_pay8))
          (weighed (s 2) (s 3) (z 2) (z 3) (select k0_pay6 k0_pay8 w))) (slices_pair u))
      (select k0_pay5
        (broadcastTo S128x128 (shapeCast S128x1 (inv (s (low u)) (z (low u))) shapeCasts_S128x1_S128x1)
          broadcasts_S128x1_S128x128)
        (broadcastTo S128x128 (shapeCast S128x1 (inv (s (high u)) (z (high u))) shapeCasts_S128x1_S128x1)
          broadcasts_S128x1_S128x128))) bitsLt_bf16_f32

/-! The loads, through the memrefs that hold the blocks. -/

theorem inb_sink : ∀ h : Fin 16, ∀ a, (![h.val] : Fin S16.rank → ℕ) a + S1.size a ≤ S16.size a := by decide
theorem inb_q : ∀ (j : Fin 4) (x : Fin 8),
    ∀ a, (![128 * j.val, 128 * x.val] : Fin S512x1024.rank → ℕ) a + S128x128.size a ≤ S512x1024.size a := by decide
theorem inb_edge : ∀ h : Fin 4, ∀ a, (![0, 128 * h.val] : Fin S128x512.rank → ℕ) a + S128x128.size a ≤ S128x512.size a := by
  decide
theorem inb_mid : ∀ h : Fin 4, ∀ a, (![0, 128 * h.val] : Fin S512x512.rank → ℕ) a + S512x128.size a ≤ S512x512.size a := by
  decide

/-- The order in which the four query heads of a key head are taken. -/
def order (k : Fin 4) : ℕ := if k.val = 0 then 0 else if k.val = 1 then 2 else if k.val = 2 then 1 else 3

section Loads

variable (arg2 : Memref sig .tc .smem S16 .f32) (harg2 : arg2.IsWhole) (arg3 : Memref sig .tc .vmem S512x1024 .bf16)
  (harg3 : arg3.IsWhole) (edge : Memref sig .tc .vmem S128x512 .bf16) (hedge : edge.IsWhole)
  (mid : Memref sig .tc .vmem S512x512 .bf16) (hmid : mid.IsWhole)
  (x0 : Vec F S16 .f32) (x1 : Vec F S512x1024 .bf16) (xe : Vec F S128x512 .bf16) (xm : Vec F S512x512 .bf16)

def ldSink (n : Fin 16) : Elt F .f32 :=
  View.readAt (Elt F) arg2.view (Rect.unit (s := S16) ![n.val] S1.size (inb_sink n)).toLoadRect (harg2.unread x0)
    (Shape.Idx.first (numel1_S1 ▸ Nat.one_pos))

def ldQ (j : Fin 4) (x : Fin 8) : Vec F S128x128 .bf16 :=
  View.readAt (Elt F) arg3.view (Rect.unit (s := S512x1024) ![128 * j.val, 128 * x.val] S128x128.size (inb_q j x)).toLoadRect
    (harg3.unread x1)

def ldEdge (h : Fin 4) : Vec F S128x128 .bf16 :=
  View.readAt (Elt F) edge.view (Rect.unit (s := S128x512) ![0, 128 * h.val] S128x128.size (inb_edge h)).toLoadRect (hedge.unread xe)

def ldMid (h : Fin 4) : Vec F S512x128 .bf16 :=
  View.readAt (Elt F) mid.view (Rect.unit (s := S512x512) ![0, 128 * h.val] S512x128.size (inb_mid h)).toLoadRect (hmid.unread xm)

end Loads

variable (c : Dev nD) (i : grid0.Coords) (arg2 : Memref sig .tc .smem S16 .f32) (harg2 : arg2.IsWhole) (arg3 : Memref sig .tc .vmem S512x1024 .bf16) (harg3 : arg3.IsWhole) (arg4 : Memref sig .tc .vmem S128x512 .bf16) (harg4 : arg4.IsWhole) (arg5 : Memref sig .tc .vmem S512x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S512x512 .bf16) (harg8 : arg8.IsWhole) (arg9 : Memref sig .tc .vmem S128x512 .bf16) (harg9 : arg9.IsWhole) (arg10 : Memref sig .tc .vmem S512x1024 .bf16) (harg10 : arg10.IsWhole)
    (x0 : Vec F S16 .f32) (x1 : Vec F S512x1024 .bf16) (x2 : Vec F S128x512 .bf16) (x3 : Vec F S512x512 .bf16) (x4 : Vec F S128x512 .bf16) (x5 : Vec F S128x512 .bf16) (x6 : Vec F S512x512 .bf16) (x7 : Vec F S128x512 .bf16)

def tileKeys (j h : Fin 4) : FVec F S384x128 .bf16 :=
  window j (ldEdge arg4 harg4 x2 h) (ldMid arg5 harg5 x3 h) (ldEdge arg6 harg6 x4 h)

def tileScores (j h k : Fin 4) : FVec F S128x384 .f32 :=
  biased i j k (scores (ldQ arg3 harg3 x1 j ⟨2 * h.val, by omega⟩) (ldQ arg3 harg3 x1 j ⟨2 * h.val + 1, by omega⟩)
    (tileKeys arg4 harg4 arg5 harg5 arg6 harg6 x2 x3 x4 j h))

/-- Query head `k` of key head `h`, as it is numbered among the sixteen. -/
def headOf (h k : Fin 4) : Fin 16 := ⟨4 * h.val + order k, by unfold order; split_ifs <;> omega⟩

def tile (j h : Fin 4) (u : Fin 2) : FVec F S128x128 .bf16 :=
  stored (tileScores i arg3 harg3 arg4 harg4 arg5 harg5 arg6 harg6 x1 x2 x3 x4 j h)
    (fun k => ldSink arg2 harg2 x0 (headOf h k)) (tileKeys arg7 harg7 arg8 harg8 arg9 harg9 x5 x6 x7 j h) u

/-- The stores run over the blocks, the key heads and the pairs; the list has the last one first. -/
def blockAt (n : Fin 32) : Fin 4 := ⟨(31 - n.val) / 8, by omega⟩
def keyHeadAt (n : Fin 32) : Fin 4 := ⟨(31 - n.val) / 2 % 4, by omega⟩
def pairAt (n : Fin 32) : Fin 2 := ⟨(31 - n.val) % 2, by omega⟩

def off (n : Fin 32) : Fin 2 → ℕ := ![128 * ((31 - n.val) / 8), 128 * ((31 - n.val) % 8)]

theorem inb_off : ∀ (n : Fin 32) (a : Fin S512x1024.rank), off n a + S128x128.size a ≤ S512x1024.size a := by decide

/-- Every store of the run is the same function of the loaded blocks. -/
theorem stores : (kernelRun0_A c i arg2 harg2 arg3 harg3 arg4 harg4 arg5 harg5 arg6 harg6 arg7 harg7 arg8 harg8 arg9 harg9 arg10 harg10 x0 x1 x2 x3 x4 x5 x6 x7).1
    = List.ofFn fun n : Fin 32 => (⟨Rect.unit (s := S512x1024) (off n) S128x128.size (inb_off n),
        tile i arg2 harg2 arg3 harg3 arg4 harg4 arg5 harg5 arg6 harg6 arg7 harg7 arg8 harg8 arg9 harg9 x0 x1 x2 x3 x4 x5 x6 x7 (blockAt n) (keyHeadAt n) (pairAt n)⟩ : View.Piece (Elt F) S512x1024 .bf16) := by
  unfold kernelRun0_A
  sl_kernel_rfl

end Cert.Proof.Tile

end
-- ==== Proof.TileVal.lean ====
/- One stored tile over extended reals, element by element: the values weighed by the softmax of the scores in base 2. -/
module

public import proofs.«01_k».proof.Proof.Tile
public import proofs.«01_k».proof.Proof.Attn

@[expose] public section

noncomputable section

namespace Cert.Proof.Tile

open Cert.KernelIdeal Cert.KernelIdeal.Gen Idealize.ShloMosaic Idealize.SL.Sem Cert.Proof.Soft

/-! Comparisons of small words. -/

theorem small (a : ℕ) (ha : a < 4096) : (BitVec.ofNat 32 a).toInt = a := by
  rw [BitVec.toInt_ofNat']; simp only [Int.bmod]; omega

theorem slt_small (a b : ℕ) (ha : a < 4096) (hb : b < 4096) :
    IntOp.cmpi .slt (BitVec.ofNat 32 a) (BitVec.ofNat 32 b) = if a < b then 1#1 else 0#1 := by
  unfold IntOp.cmpi
  simp only [BitVec.slt, small a ha, small b hb, Nat.cast_lt]
  split_ifs with h <;> simp [h]

theorem sge_small (a b : ℕ) (ha : a < 4096) (hb : b < 4096) :
    IntOp.cmpi .sge (BitVec.ofNat 32 a) (BitVec.ofNat 32 b) = if b ≤ a then 1#1 else 0#1 := by
  unfold IntOp.cmpi
  simp only [BitVec.sle, small a ha, small b hb, Nat.cast_le]
  split_ifs with h <;> simp [h]

theorem low_lane (l : Fin 128) : IntOp.cmpi .slt (BitVec.ofNat 32 l.val) 64#32 = if l.val < 64 then 1#1 else 0#1 :=
  slt_small l.val 64 (by omega) (by omega)

theorem select_ite {α : Type} (p : Prop) [Decidable p] (x y : α) :
    Scalar.select (if p then 1#1 else 0#1) x y = if p then x else y := by
  split <;> rfl

/-! The named constants' values. -/

theorem mask_val : (Named.named κ "mask" 4048155338#32 : Ideal .f32) = ⊥ :=
  IdealRules.named_const.ideal_named_scalar _ _ _ _ rfl

theorem log2e_val : (Named.named κ "log2e" 0x3FB8AA3B#32 : Ideal .f32) = (((Real.log 2)⁻¹ : ℝ) : EReal) :=
  IdealRules.named_const.ideal_named_scalar _ _ _ _ rfl

/-! The scores. -/

theorem window_apply (j : Fin 4) (p : Vec Ideal S128x128 .bf16) (c : Vec Ideal S512x128 .bf16) (n : Vec Ideal S128x128 .bf16)
    (s : Fin 384) (l : Fin 128) :
    window j p c n (ix2 s l)
      = if h : 128 * j.val + s.val < 128 then p (ix2 (⟨128 * j.val + s.val, h⟩ : Fin 128) l)
        else if h' : 128 * j.val + s.val - 128 < 512 then c (ix2 (⟨128 * j.val + s.val - 128, h'⟩ : Fin 512) l)
        else n (ix2 (⟨128 * j.val + s.val - 128 - 512, by omega⟩ : Fin 128) l) := by
  unfold window
  pointwise

theorem queries_apply (a b : Vec Ideal S128x128 .bf16) (k : Fin 4) (r l : Fin 128) :
    queries a b (ix2 (⟨128 * k.val + r.val, by omega⟩ : Fin 512) l)
      = if (l.val < 64 ↔ k.val < 2) then (if k.val % 2 = 0 then a else b) (ix2 r l) else (0 : EReal) := by
  have e1 : ∀ h, (⟨128 + r.val - 128, h⟩ : Fin 128) = r := fun h => Fin.ext (by simp)
  have e2 : ∀ h, (⟨256 + r.val - 128 - 128, h⟩ : Fin 128) = r := fun h => Fin.ext (by simp; omega)
  have e3 : ∀ h, (⟨384 + r.val - 128 - 128 - 128, h⟩ : Fin 128) = r := fun h => Fin.ext (by simp; omega)
  unfold queries
  unfold_payloads
  pointwise
  simp only [low_lane, select_ite]
  fin_cases k <;> by_cases hl : l.val < 64 <;> simp [hl, e1, e2, e3] <;> split_ifs <;>
    first | rfl | (exfalso; omega)

theorem scores_apply (a b : Vec Ideal S128x128 .bf16) (w : FVec Ideal S384x128 .bf16) (k : Fin 512) (s : Fin 384) :
    scores a b w (ix2 k s) = ∑ l : Fin 128, (queries a b (ix2 k l) : EReal) * w (ix2 s l) := by
  unfold scores
  generalize queries a b = q
  pointwise

/-- Place `s` of the window is within 128 positions of query `r`. -/
def Near (r : Fin 128) (s : Fin 384) : Prop := r.val ≤ s.val ∧ s.val ≤ r.val + 256

instance (r : Fin 128) (s : Fin 384) : Decidable (Near r s) := inferInstanceAs (Decidable (_ ∧ _))

theorem band_word (r : Fin 128) (s : Fin 384) :
    (IntOp.subi (BitVec.ofNat 32 r.val) (IntOp.subi (BitVec.ofNat 32 s.val) 128#32)).toInt = (r.val : ℤ) - (s.val - 128) := by
  unfold IntOp.subi
  have h := small 128 (by omega)
  rw [BitVec.toInt_sub, BitVec.toInt_sub, small r.val (by omega), small s.val (by omega), h]
  simp only [Int.bmod]; omega

theorem band_apply (r : Fin 128) (s : Fin 384) : k0_pay2 (F := Ideal) (ix2 r s) = if Near r s then (0 : EReal) else ⊥ := by
  unfold_payloads
  pointwise
  rw [mask_val]
  have h := band_word r s
  generalize IntOp.subi (BitVec.ofNat 32 r.val) (IntOp.subi (BitVec.ofNat 32 s.val) 128#32) = x at h
  have h1 : (128#32).toInt = 128 := by decide
  have h2 : (4294967168#32).toInt = -128 := by decide
  unfold IntOp.cmpi
  simp only [BitVec.sle, h, h1, h2]
  by_cases a : r.val ≤ s.val
  · by_cases b : s.val ≤ r.val + 256
    · rw [if_pos (show Near r s from ⟨a, b⟩), decide_eq_true (by omega), decide_eq_true (by omega)]; rfl
    · rw [if_neg (fun h : Near r s => b h.2), decide_eq_true (by omega), decide_eq_false (by omega)]; rfl
  · rw [if_neg (fun h : Near r s => a h.1), decide_eq_false (by omega)]; rfl

theorem step_pos (i : grid0.Coords) : Scalar.cmpi .sgt (BitVec.ofNat 32 (i 1).val) 0#32 = if 0 < (i 1).val then 1#1 else 0#1 :=
  slt_small 0 (i 1).val (by omega) (lt_of_lt_of_le (i 1).isLt (by decide))

theorem step_last (i : grid0.Coords) : Scalar.cmpi .slt (BitVec.ofNat 32 (i 1).val) 3#32 = if (i 1).val < 3 then 1#1 else 0#1 :=
  slt_small (i 1).val 3 (lt_of_lt_of_le (i 1).isLt (by decide)) (by omega)

theorem first_apply (i : grid0.Coords) (r : Fin 128) (s : Fin 384) :
    k0_pay3 (F := Ideal) i (ix2 r s) = if Near r s ∧ ¬ (s.val < 128 ∧ (i 1).val = 0) then (0 : EReal) else ⊥ := by
  have hs := slt_small s.val 128 (by omega) (by omega)
  unfold k0_pay3
  have hb := band_apply r s
  generalize k0_pay2 (F := Ideal) = y at hb
  pointwise
  rw [mask_val, hs, step_pos, select_ite, select_ite, hb]
  have hi : (i 1).val = 0 ↔ ¬ 0 < (i 1).val := by omega
  by_cases a : s.val < 128 <;> by_cases b : 0 < (i 1).val <;> simp [a, b, hi]

theorem last_apply (i : grid0.Coords) (r : Fin 128) (s : Fin 384) :
    k0_pay4 (F := Ideal) i (ix2 r s) = if Near r s ∧ ¬ (256 ≤ s.val ∧ (i 1).val = 3) then (0 : EReal) else ⊥ := by
  unfold k0_pay4
  have hb := band_apply r s
  generalize k0_pay2 (F := Ideal) = y at hb
  pointwise
  rw [mask_val, sge_small s.val 256 (by omega) (by omega), step_last, select_ite, select_ite, hb]
  have hi : (i 1).val = 3 ↔ ¬ (i 1).val < 3 := by have : (i 1).val < 4 := (i 1).isLt; omega
  by_cases a : 256 ≤ s.val <;> by_cases b : (i 1).val < 3 <;> simp [a, b, hi]

/-- The window's place `s` about query block `j` holds a key: it is not off either end of the sequence. -/
def Held (i : grid0.Coords) (j : Fin 4) (s : Fin 384) : Prop :=
  ¬ (s.val < 128 ∧ j.val = 0 ∧ (i 1).val = 0) ∧ ¬ (256 ≤ s.val ∧ j.val = 3 ∧ (i 1).val = 3)

instance (i : grid0.Coords) (j : Fin 4) (s : Fin 384) : Decidable (Held i j s) := inferInstanceAs (Decidable (_ ∧ _))

theorem biasL_apply (i : grid0.Coords) (j : Fin 4) (r : Fin 128) (s : Fin 384) (hs : s.val < 128) :
    biasL (F := Ideal) i j (ix2 r s) = if Near r s ∧ Held i j s then (0 : EReal) else ⊥ := by
  have h : Held i j s ↔ ¬ (j.val = 0 ∧ (i 1).val = 0) := by unfold Held; omega
  unfold biasL
  by_cases hj : j.val = 0
  · rw [if_pos hj, first_apply]; simp [h, hj, hs]
  · rw [if_neg hj, band_apply]; simp [h, hj]

theorem biasR_apply (i : grid0.Coords) (j : Fin 4) (r : Fin 128) (s : Fin 384) (hs : 256 ≤ s.val) :
    biasR (F := Ideal) i j (ix2 r s) = if Near r s ∧ Held i j s then (0 : EReal) else ⊥ := by
  have h : Held i j s ↔ ¬ (j.val = 3 ∧ (i 1).val = 3) := by unfold Held; omega
  unfold biasR
  by_cases hj : j.val = 3
  · rw [if_pos hj, last_apply]; simp [h, hj, hs]
  · rw [if_neg hj, band_apply]; simp [h, hj]

theorem biased_apply (i : grid0.Coords) (j k : Fin 4) (x : FVec Ideal S512x384 .f32) (r : Fin 128) (s : Fin 384) :
    biased i j k x (ix2 r s)
      = if Near r s ∧ Held i j s then x (ix2 (⟨128 * k.val + r.val, by omega⟩ : Fin 512) s) else (⊥ : EReal) := by
  have hL := biasL_apply i j r s
  have hR := biasR_apply i j r s
  unfold biased
  generalize biasL (F := Ideal) i j = L at hL ⊢
  generalize biasR (F := Ideal) i j = R at hR ⊢
  pointwise
  by_cases h1 : s.val < 128
  · rw [dif_pos h1, hL h1]
    by_cases h2 : Near r s ∧ Held i j s
    · rw [if_pos h2, if_pos h2, add_zero]
    · rw [if_neg h2, if_neg h2, EReal.add_bot]
  · rw [dif_neg h1]
    by_cases h3 : s.val - 128 < 128
    · rw [dif_pos h3, if_pos (show Near r s ∧ Held i j s from ⟨⟨by omega, by omega⟩, by unfold Held; omega⟩)]
      exact congrArg x (congrArg (ix2 _) (Fin.ext (by simp; omega)))
    · have e : ∀ h, (⟨256 + (s.val - 128 - 128), h⟩ : Fin 384) = s := fun h => Fin.ext (by simp; omega)
      rw [dif_neg h3, e, hR (by omega)]
      by_cases h2 : Near r s ∧ Held i j s
      · rw [if_pos h2, if_pos h2, add_zero]
      · rw [if_neg h2, if_neg h2, EReal.add_bot]

/-! The softmax. -/

theorem max_apply (x y : FVec Ideal S128x1 .f32) (i : S128x1.Idx) : maximumf x y i = max (x i) (y i) := rfl

theorem minus_inf : Ideal.ofBits FTy.f32 4286578688#32 = ⊥ := by
  simp [Ideal.ofBits, Ideal.ieee]

theorem rows_max (x : FVec Ideal S128x384 .f32) (r : Fin 128) :
    shapeCast S128x1 (multiReduction .maximumf [1] S128 x 0xFF800000#32 reduces_S128x384_S128 (.inl rfl) rfl)
      shapeCasts_S128_S128x1 (ix2 r (0 : Fin 1)) = Finset.univ.fold max (⊥ : EReal) fun s : Fin 384 => x (ix2 r s) := by
  pointwise
  rw [minus_inf]

theorem snk_val (z : ℝ) : snk (F := Ideal) (z : EReal) = (z : EReal) * (((Real.log 2)⁻¹ : ℝ) : EReal) := by
  unfold snk
  rw [log2e_val]
  rfl

theorem top_apply (x : FVec Ideal S128x384 .f32) (z : Elt Ideal .f32) (r : Fin 128) :
    top x z (ix2 r (0 : Fin 1)) = max (Finset.univ.fold max (⊥ : EReal) fun s : Fin 384 => x (ix2 r s)) (snk z) := by
  unfold top
  rw [max_apply, rows_max]
  rfl

theorem prob_apply (x : FVec Ideal S128x384 .f32) (z : Elt Ideal .f32) (r : Fin 128) (s : Fin 384) :
    prob x z (ix2 r s) = Ideal.exp2 (x (ix2 r s) - top x z (ix2 r (0 : Fin 1))) := by
  unfold prob
  generalize top x z = t
  pointwise
  rfl

theorem inv_apply (x : FVec Ideal S128x384 .f32) (z : Elt Ideal .f32) (r : Fin 128) :
    inv x z (ix2 r (0 : Fin 1)) = Ideal.div 1 (∑ s : Fin 384, prob x z (ix2 r s)
      + Ideal.exp2 (snk z - top x z (ix2 r (0 : Fin 1)))) := by
  unfold inv
  generalize prob x z = p
  generalize top x z = t
  pointwise
  rfl

theorem weighed_apply (x y : FVec Ideal S128x384 .f32) (a b : Elt Ideal .f32) (v : FVec Ideal S384x128 .bf16) (u : Fin 2)
    (r l : Fin 128) :
    weighed x y a b v (ix2 (⟨128 * u.val + r.val, by omega⟩ : Fin 256) l)
      = ∑ s : Fin 384, (if u.val = 0 then prob x a else prob y b) (ix2 r s) * (v (ix2 s l) : EReal) := by
  unfold weighed
  generalize prob x a = p
  generalize prob y b = q
  pointwise
  have e : ∀ h, (⟨128 + r.val - 128, h⟩ : Fin 128) = r := fun h => Fin.ext (by simp)
  fin_cases u <;> simp [e]

theorem values_low (w : FVec Ideal S384x128 .bf16) (s : Fin 384) (l : Fin 128) :
    select k0_pay6 w k0_pay8 (ix2 s l) = if l.val < 64 then w (ix2 s l) else (0 : EReal) := by
  unfold_payloads
  pointwise
  rw [low_lane, select_ite]

theorem values_high (w : FVec Ideal S384x128 .bf16) (s : Fin 384) (l : Fin 128) :
    select k0_pay6 k0_pay8 w (ix2 s l) = if l.val < 64 then (0 : EReal) else w (ix2 s l) := by
  unfold_payloads
  pointwise
  rw [low_lane, select_ite]

theorem stored_open (x : Fin 4 → FVec Ideal S128x384 .f32) (z : Fin 4 → Elt Ideal .f32) (w : FVec Ideal S384x128 .bf16)
    (u : Fin 2) (r l : Fin 128) :
    stored x z w u (ix2 r l)
      = (weighed (x 0) (x 1) (z 0) (z 1) (select k0_pay6 w k0_pay8) (ix2 (⟨128 * u.val + r.val, by omega⟩ : Fin 256) l)
          + weighed (x 2) (x 3) (z 2) (z 3) (select k0_pay6 k0_pay8 w) (ix2 (⟨128 * u.val + r.val, by omega⟩ : Fin 256) l))
        * (if l.val < 64 then inv (x (low u)) (z (low u)) (ix2 r (0 : Fin 1))
            else inv (x (high u)) (z (high u)) (ix2 r (0 : Fin 1)) : EReal) := by
  unfold stored
  generalize weighed (x 0) _ _ _ _ = A
  generalize weighed (x 2) _ _ _ _ = B
  generalize inv (x (low u)) _ = I
  generalize inv (x (high u)) _ = J
  unfold_payloads
  pointwise
  rw [low_lane, select_ite]

/-- One head's row: the weighed values times the inverse of the denominator are the softmax's weighed values. -/
theorem soft_row (x : FVec Ideal S128x384 .f32) (z : Elt Ideal .f32) (r : Fin 128) (y : Fin 384 → EReal) (hy : ∀ s, y s ≠ ⊤)
    (hx : ∀ s, x (ix2 r s) = y s * (((Real.log 2)⁻¹ : ℝ) : EReal)) (ζ : ℝ) (hz : z = (ζ : EReal)) (v : Fin 384 → EReal) :
    (∑ s : Fin 384, prob x z (ix2 r s) * v s) * inv x z (ix2 r (0 : Fin 1))
      = ∑ s, v s * ((weight (y s) / den y ζ : ℝ) : EReal) := by
  have h2 : (0 : ℝ) < (Real.log 2)⁻¹ := inv_pos.2 (Real.log_pos (by norm_num))
  have hx' : ∀ s, x (ix2 r s) ≠ ⊤ := fun s => by
    rw [hx]
    cases h : y s with
    | bot => rw [EReal.bot_mul_coe_of_pos h2]; exact bot_ne_top
    | coe a => rw [← EReal.coe_mul]; exact EReal.coe_ne_top _
    | top => exact absurd h (hy s)
  obtain ⟨m, hm⟩ := max_real (fun s : Fin 384 => x (ix2 r s)) hx' (ζ * (Real.log 2)⁻¹)
  rw [inv_apply]
  simp only [prob_apply, top_apply, hz, snk_val]
  rw [← EReal.coe_mul, hm, EReal.coe_mul]
  simp only [hx]
  exact soft_sum y hy ζ m v

/-- The head of the pair that lane `l` belongs to. -/
def headLane (u : Fin 2) (l : Fin 128) : Fin 4 := if l.val < 64 then low u else high u

theorem stored_apply (x : Fin 4 → FVec Ideal S128x384 .f32) (z : Fin 4 → Elt Ideal .f32) (w : FVec Ideal S384x128 .bf16)
    (u : Fin 2) (r l : Fin 128) (y : Fin 384 → EReal) (hy : ∀ s, y s ≠ ⊤)
    (hx : ∀ s, x (headLane u l) (ix2 r s) = y s * (((Real.log 2)⁻¹ : ℝ) : EReal)) (ζ : ℝ)
    (hz : z (headLane u l) = (ζ : EReal)) :
    stored x z w u (ix2 r l) = ∑ s : Fin 384, (w (ix2 s l) : EReal) * ((weight (y s) / den y ζ : ℝ) : EReal) := by
  refine Eq.trans ?_ (soft_row _ _ r y hy hx ζ hz fun s => w (ix2 s l))
  rw [stored_open, weighed_apply, weighed_apply]
  simp only [values_low, values_high]
  unfold headLane
  by_cases hl : l.val < 64
  · simp only [if_pos hl, mul_zero, Finset.sum_const_zero, add_zero]
    fin_cases u <;> rfl
  · simp only [if_neg hl, mul_zero, Finset.sum_const_zero, zero_add]
    fin_cases u <;> rfl

end Cert.Proof.Tile

end
-- ==== Proof.TileAttn.lean ====
/- One stored tile is the attention, when the blocks hold their parts of the queries, the keys and the values. -/
module

public import proofs.«01_k».proof.Proof.TileVal

@[expose] public section

noncomputable section

namespace Cert.Proof.Tile

open Cert.KernelIdeal Cert.KernelIdeal.Gen Idealize.ShloMosaic Idealize.SL.Sem Cert.Proof.Soft Cert.Proof.Attn

/-! The loads read the blocks. -/

section Loads

variable (arg2 : Memref sig .tc .smem S16 .f32) (harg2 : arg2.IsWhole) (arg3 : Memref sig .tc .vmem S512x1024 .bf16)
  (harg3 : arg3.IsWhole) (edge : Memref sig .tc .vmem S128x512 .bf16) (hedge : edge.IsWhole)
  (mid : Memref sig .tc .vmem S512x512 .bf16) (hmid : mid.IsWhole)
  (x0 : Vec Ideal S16 .f32) (x1 : Vec Ideal S512x1024 .bf16) (xe : Vec Ideal S128x512 .bf16) (xm : Vec Ideal S512x512 .bf16)

theorem ldSink_apply (n : Fin 16) : ldSink arg2 harg2 x0 n = x0 (ix1 n) := by
  unfold ldSink
  rw [View.readAt_eq_ld, harg2.read_unread]
  exact congrArg x0 (funext fun a => Fin.ext (by fin_cases a; rfl))

theorem ldQ_apply (j : Fin 4) (x : Fin 8) (r l : Fin 128) :
    ldQ arg3 harg3 x1 j x (ix2 r l)
      = x1 (ix2 (⟨128 * j.val + r.val, by omega⟩ : Fin 512) (⟨128 * x.val + l.val, by omega⟩ : Fin 1024)) := by
  unfold ldQ
  rw [View.readAt_eq_ld, harg3.read_unread]
  pointwise

theorem ldEdge_apply (h : Fin 4) (r l : Fin 128) :
    ldEdge edge hedge xe h (ix2 r l) = xe (ix2 r (⟨128 * h.val + l.val, by omega⟩ : Fin 512)) := by
  unfold ldEdge
  rw [View.readAt_eq_ld, hedge.read_unread]
  pointwise

theorem ldMid_apply (h : Fin 4) (r : Fin 512) (l : Fin 128) :
    ldMid mid hmid xm h (ix2 r l) = xm (ix2 r (⟨128 * h.val + l.val, by omega⟩ : Fin 512)) := by
  unfold ldMid
  rw [View.readAt_eq_ld, hmid.read_unread]
  pointwise

end Loads

theorem half_sum (f : Fin 128 → EReal) (c : ℕ) (hc : c < 2) (h : ∀ l : Fin 128, l.val / 64 ≠ c → f l = 0) :
    ∑ l, f l = ∑ d : Fin 64, f ⟨64 * c + d.val, by omega⟩ := by
  rw [show ∑ l, f l = ∑ d : Fin 64, f (Fin.castAdd 64 d) + ∑ d : Fin 64, f (Fin.natAdd 64 d) from Fin.sum_univ_add (a := 64) (b := 64) f]
  interval_cases c
  · rw [Finset.sum_eq_zero (f := fun d : Fin 64 => f (Fin.natAdd 64 d)) fun d _ => h _ (by simp), add_zero]
    exact Finset.sum_congr rfl fun d _ => congrArg f (Fin.ext (by simp))
  · rw [Finset.sum_eq_zero (f := fun d : Fin 64 => f (Fin.castAdd 64 d)) fun d _ => h _ (by simp; omega), zero_add]
    exact Finset.sum_congr rfl fun d _ => congrArg f (Fin.ext (by simp; omega))

/-- Queries scaled before the product give the scaled score. -/
theorem scaled_sum (a b : Fin 64 → EReal) (ha : Attn.Real a) (hb : Attn.Real b) (s t : ℝ) :
    ∑ d, a d * (s : EReal) * (t : EReal) * b d = (∑ d, b d * a d) * (s : EReal) * (t : EReal) := by
  have e : ∀ d, a d * (s : EReal) * (t : EReal) * b d = (((a d).toReal * s * t * (b d).toReal : ℝ) : EReal) := fun d => by
    rw [EReal.coe_mul, EReal.coe_mul, EReal.coe_mul, ← ha, ← hb]
  have e' : ∀ d, b d * a d = (((b d).toReal * (a d).toReal : ℝ) : EReal) := fun d => by
    rw [EReal.coe_mul, ← ha, ← hb]
  simp only [e, e', ← coe_sum, ← EReal.coe_mul]
  congr 1
  rw [Finset.sum_mul, Finset.sum_mul]
  exact Finset.sum_congr rfl fun d _ => by ring

/-! The blocks of one batch and one step of 512 queries. -/

/-- The block of queries, scaled. -/
def QPart (q : Qs) (b : Fin 16) (st : Fin 4) (x : Vec Ideal S512x1024 .bf16) : Prop :=
  ∀ (r : Fin 512) (l : Fin 1024), x (ix2 r l)
    = q (ix5 b (⟨512 * st.val + r.val, by omega⟩ : Fin 2048) (⟨l.val / 256, by omega⟩ : Fin 4) (⟨l.val / 64 % 4, by omega⟩ : Fin 4)
        (⟨l.val % 64, by omega⟩ : Fin 64)) * ((1 / 8 : ℝ) : EReal) * (((Real.log 2)⁻¹ : ℝ) : EReal)

/-- The block of keys (or of values) before the queries, along them, and after: each one where it has positions. -/
def KPart (k : Ks) (b : Fin 16) (st : Fin 4) (p : Vec Ideal S128x512 .bf16) (c : Vec Ideal S512x512 .bf16)
    (n : Vec Ideal S128x512 .bf16) : Prop :=
  (∀ (r : Fin 128) (l : Fin 512) (m : Fin 2048), m.val + 128 = 512 * st.val + r.val →
    p (ix2 r l) = k (ix4 b m (⟨l.val / 128, by omega⟩ : Fin 4) (⟨l.val % 64, by omega⟩ : Fin 64)))
  ∧ (∀ (r l : Fin 512) (m : Fin 2048), m.val = 512 * st.val + r.val →
    c (ix2 r l) = k (ix4 b m (⟨l.val / 128, by omega⟩ : Fin 4) (⟨l.val % 64, by omega⟩ : Fin 64)))
  ∧ ∀ (r : Fin 128) (l : Fin 512) (m : Fin 2048), m.val = 512 * st.val + 512 + r.val →
    n (ix2 r l) = k (ix4 b m (⟨l.val / 128, by omega⟩ : Fin 4) (⟨l.val % 64, by omega⟩ : Fin 64))

theorem key_congr (k : Ks) (b : Fin 16) (m : Fin 2048) {g g' : Fin 4} {d d' : Fin 64} (hg : g.val = g'.val) (hd : d.val = d'.val) :
    k (ix4 b m g d) = k (ix4 b m g' d') := by
  rw [Fin.ext hg, Fin.ext hd]

theorem query_congr (q : Qs) (b : Fin 16) {m m' : Fin 2048} {g g' h h' : Fin 4} {d d' : Fin 64} (hm : m.val = m'.val)
    (hg : g.val = g'.val) (hh : h.val = h'.val) (hd : d.val = d'.val) : q (ix5 b m g h d) = q (ix5 b m' g' h' d') := by
  rw [Fin.ext hm, Fin.ext hg, Fin.ext hh, Fin.ext hd]

/-- Place `s` of a tile's window holds the key 128 positions before it. -/
theorem keys_apply (arg4 : Memref sig .tc .vmem S128x512 .bf16) (harg4 : arg4.IsWhole) (arg5 : Memref sig .tc .vmem S512x512 .bf16)
    (harg5 : arg5.IsWhole) (arg6 : Memref sig .tc .vmem S128x512 .bf16) (harg6 : arg6.IsWhole) {k : Ks} {b : Fin 16} {st : Fin 4}
    {x2 : Vec Ideal S128x512 .bf16} {x3 : Vec Ideal S512x512 .bf16} {x4 : Vec Ideal S128x512 .bf16} (hk : KPart k b st x2 x3 x4)
    (j h : Fin 4) (s : Fin 384) (l : Fin 128) (m : Fin 2048) (hm : m.val + 128 = 512 * st.val + 128 * j.val + s.val) :
    tileKeys arg4 harg4 arg5 harg5 arg6 harg6 x2 x3 x4 j h (ix2 s l) = k (ix4 b m h (⟨l.val % 64, by omega⟩ : Fin 64)) := by
  obtain ⟨hp, hc, hn⟩ := hk
  unfold tileKeys
  rw [window_apply]
  by_cases h1 : 128 * j.val + s.val < 128
  · rw [dif_pos h1, ldEdge_apply, hp _ _ m (by simp only; omega)]
    exact key_congr k b m (by simp only; omega) (by simp only; omega)
  · rw [dif_neg h1]
    by_cases h2 : 128 * j.val + s.val - 128 < 512
    · rw [dif_pos h2, ldMid_apply, hc _ _ m (by simp only; omega)]
      exact key_congr k b m (by simp only; omega) (by simp only; omega)
    · rw [dif_neg h2, ldEdge_apply, hn _ _ m (by simp only; omega)]
      exact key_congr k b m (by simp only; omega) (by simp only; omega)

/-- Scores laid out over a window's places: place `s` has key `B + s - 128`, or minus infinity. -/
def placed (x : Fin 2048 → EReal) (B : ℕ) (s : Fin 384) : EReal :=
  if hs : 128 ≤ B + s.val ∧ B + s.val - 128 < 2048 then x ⟨B + s.val - 128, hs.2⟩ else ⊥

theorem placed_key (x : Fin 2048 → EReal) (B : ℕ) (s : Fin 384) (n : Fin 2048) (h : n.val + 128 = B + s.val) : placed x B s = x n := by
  unfold placed
  rw [dif_pos (by omega)]
  exact congrArg x (Fin.ext (by simp only; omega))

theorem placed_none (x : Fin 2048 → EReal) (B : ℕ) (s : Fin 384) (h : ∀ n : Fin 2048, n.val + 128 ≠ B + s.val) : placed x B s = ⊥ := by
  unfold placed
  rw [dif_neg]
  intro hs
  exact h ⟨_, hs.2⟩ (by simp only; omega)

/-- The softmax over a window's places is the one over the keys. -/
theorem placed_soft (x : Fin 2048 → EReal) (B : ℕ) (hx : ∀ n : Fin 2048, (∀ s : Fin 384, n.val + 128 ≠ B + s.val) → x n = ⊥)
    (w : Fin 384 → EReal) (v : Fin 2048 → EReal) (hw : ∀ (s : Fin 384) (n : Fin 2048), n.val + 128 = B + s.val → w s = v n) (ζ : ℝ) :
    ∑ s, w s * ((weight (placed x B s) / den (placed x B) ζ : ℝ) : EReal) = ∑ n, v n * ((weight (x n) / den x ζ : ℝ) : EReal) := by
  have e : den (placed x B) ζ = den x ζ := congrArg (· + Real.exp ζ) (window_sum B 128 _ _
    (fun s n h => by rw [placed_key x B s n h]) (fun s h => by rw [placed_none x B s h, weight_bot])
    (fun n h => by rw [hx n h, weight_bot]))
  rw [e]
  exact window_sum B 128 _ _ (fun s n h => by rw [placed_key x B s n h, hw s n h])
    (fun s h => by rw [placed_none x B s h, weight_bot, zero_div, EReal.coe_zero, mul_zero])
    (fun n h => by rw [hx n h, weight_bot, zero_div, EReal.coe_zero, mul_zero])

theorem placed_ne_top (x : Fin 2048 → EReal) (hx : ∀ n, x n ≠ ⊤) (B : ℕ) (s : Fin 384) : placed x B s ≠ ⊤ := by
  unfold placed
  split
  · exact hx _
  · exact bot_ne_top

theorem headLane_half (u : Fin 2) (l : Fin 128) : (headLane u l).val / 2 = l.val / 64 ∧ (headLane u l).val % 2 = u.val := by
  unfold headLane low high
  split <;> simp only <;> omega

theorem headOf_lane (h : Fin 4) (u : Fin 2) (l : Fin 128) :
    headOf h (headLane u l) = head h ⟨2 * u.val + l.val / 64, by omega⟩ := by
  have e := headLane_half u l
  apply Fin.ext
  unfold headOf head order
  simp only
  split_ifs <;> omega

/-- The product of the scaled queries with one window place is the score of its key, over `log 2`. -/
theorem product_apply (arg3 : Memref sig .tc .vmem S512x1024 .bf16) (harg3 : arg3.IsWhole) {q : Qs} {k : Ks} (rq : Attn.Real q)
    (rk : Attn.Real k) {b : Fin 16} {st : Fin 4} {x1 : Vec Ideal S512x1024 .bf16} (hq : QPart q b st x1) (w : FVec Ideal S384x128 .bf16)
    (j h : Fin 4) (u : Fin 2) (r l : Fin 128) (s : Fin 384) (m : Fin 2048)
    (hw : ∀ l : Fin 128, w (ix2 s l) = k (ix4 b m h (⟨l.val % 64, by omega⟩ : Fin 64))) :
    scores (ldQ arg3 harg3 x1 j ⟨2 * h.val, by omega⟩) (ldQ arg3 harg3 x1 j ⟨2 * h.val + 1, by omega⟩) w
        (ix2 (⟨128 * (headLane u l).val + r.val, by omega⟩ : Fin 512) s)
      = (∑ d : Fin 64, k (ix4 b m h d)
          * q (ix5 b (⟨512 * st.val + 128 * j.val + r.val, by omega⟩ : Fin 2048) h (⟨2 * u.val + l.val / 64, by omega⟩ : Fin 4) d))
        * ((1 / 8 : ℝ) : EReal) * (((Real.log 2)⁻¹ : ℝ) : EReal) := by
  obtain ⟨e1, e2⟩ := headLane_half u l
  rw [scores_apply, half_sum _ (l.val / 64) (by omega) fun l' hl => by
    rw [queries_apply, if_neg (by omega)]; exact zero_mul _]
  refine (Finset.sum_congr rfl fun d _ => ?_).trans
    (scaled_sum (fun d : Fin 64 => q (ix5 b (⟨512 * st.val + 128 * j.val + r.val, by omega⟩ : Fin 2048) h (⟨2 * u.val + l.val / 64, by omega⟩ : Fin 4) d))
      (fun d : Fin 64 => k (ix4 b m h d)) (fun d => rq _) (fun d => rk _) (1 / 8) (Real.log 2)⁻¹)
  rw [queries_apply, if_pos (by simp only; omega), hw]
  have hd : d.val < 64 := d.isLt
  have pick : (if (headLane u l).val % 2 = 0 then ldQ arg3 harg3 x1 j ⟨2 * h.val, by omega⟩ else ldQ arg3 harg3 x1 j ⟨2 * h.val + 1, by omega⟩)
      = ldQ arg3 harg3 x1 j ⟨2 * h.val + u.val, by omega⟩ := by
    by_cases hu : u.val = 0
    · rw [if_pos (by omega)]; congr 1; apply Fin.ext; simp only; omega
    · rw [if_neg (by omega)]; congr 1; apply Fin.ext; simp only; omega
  rw [pick, ldQ_apply, hq]
  refine congr (congrArg (· * ·) (congrArg (· * _) (congrArg (· * _) (query_congr q b ?_ ?_ ?_ ?_)))) (key_congr k b m rfl ?_)
    <;> simp only <;> omega

section Tiles

variable {i : grid0.Coords} (arg2 : Memref sig .tc .smem S16 .f32) (harg2 : arg2.IsWhole) (arg3 : Memref sig .tc .vmem S512x1024 .bf16) (harg3 : arg3.IsWhole) (arg4 : Memref sig .tc .vmem S128x512 .bf16) (harg4 : arg4.IsWhole) (arg5 : Memref sig .tc .vmem S512x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S512x512 .bf16) (harg8 : arg8.IsWhole) (arg9 : Memref sig .tc .vmem S128x512 .bf16) (harg9 : arg9.IsWhole)
    {x0 : Vec Ideal S16 .f32} {x1 : Vec Ideal S512x1024 .bf16} {x2 : Vec Ideal S128x512 .bf16} {x3 : Vec Ideal S512x512 .bf16} {x4 : Vec Ideal S128x512 .bf16} {x5 : Vec Ideal S128x512 .bf16} {x6 : Vec Ideal S512x512 .bf16} {x7 : Vec Ideal S128x512 .bf16}
    {q : Qs} {k v : Ks} {z : Sinks} (rq : Attn.Real q) (rk : Attn.Real k) (rz : Attn.Real z) {b : Fin 16} {st : Fin 4}
    (hi : (i 1).val = st.val) (hz : ∀ n, x0 (ix1 n) = z (ix1 n)) (hq : QPart q b st x1) (hk : KPart k b st x2 x3 x4) (hv : KPart v b st x5 x6 x7)

include rq rk hi hq hk in
/-- A tile's score, with the window's places that hold no key at minus infinity. -/
theorem tileScores_apply (j h : Fin 4) (u : Fin 2) (r l : Fin 128) (s : Fin 384) :
    tileScores i arg3 harg3 arg4 harg4 arg5 harg5 arg6 harg6 x1 x2 x3 x4 j h (headLane u l) (ix2 r s)
      = placed (score q k b ⟨512 * st.val + 128 * j.val + r.val, by omega⟩ h ⟨2 * u.val + l.val / 64, by omega⟩) (512 * st.val + 128 * j.val) s * (((Real.log 2)⁻¹ : ℝ) : EReal) := by
  have h2 : (0 : ℝ) < (Real.log 2)⁻¹ := inv_pos.2 (Real.log_pos (by norm_num))
  unfold tileScores placed
  rw [biased_apply]
  by_cases hn : Near r s ∧ Held i j s
  · have hs : 128 ≤ 512 * st.val + 128 * j.val + s.val ∧ 512 * st.val + 128 * j.val + s.val - 128 < 2048 := by
      obtain ⟨hn, hh⟩ := hn
      unfold Held at hh
      omega
    rw [if_pos hn, dif_pos hs, product_apply arg3 harg3 rq rk hq _ j h u r l s ⟨512 * st.val + 128 * j.val + s.val - 128, hs.2⟩
      fun l => keys_apply arg4 harg4 arg5 harg5 arg6 harg6 hk j h s l _ (by simp only; omega)]
    unfold score
    rw [if_pos]
    obtain ⟨hn, hh⟩ := hn
    unfold Near at hn
    simp only
    omega
  · rw [if_neg hn]
    refine (?_ : _ = ⊥ * (((Real.log 2)⁻¹ : ℝ) : EReal)).trans (congrArg (· * _) ?_)
    · rw [EReal.bot_mul_coe_of_pos h2]
    · by_cases hs : 128 ≤ 512 * st.val + 128 * j.val + s.val ∧ 512 * st.val + 128 * j.val + s.val - 128 < 2048
      · rw [dif_pos hs]
        unfold score
        rw [if_neg]
        intro hc
        apply hn
        unfold Near Held
        simp only at hc
        omega
      · rw [dif_neg hs]

include rq rk rz hi hz hq hk hv in
/-- A stored tile is the attention of its head at its positions. -/
theorem tile_apply (j h : Fin 4) (u : Fin 2) (r l : Fin 128) :
    tile i arg2 harg2 arg3 harg3 arg4 harg4 arg5 harg5 arg6 harg6 arg7 harg7 arg8 harg8 arg9 harg9 x0 x1 x2 x3 x4 x5 x6 x7 j h u (ix2 r l)
      = attn q k v z b ⟨512 * st.val + 128 * j.val + r.val, by omega⟩ h ⟨2 * u.val + l.val / 64, by omega⟩ ⟨l.val % 64, by omega⟩ := by
  have top := score_ne_top rq rk b ⟨512 * st.val + 128 * j.val + r.val, by omega⟩ h ⟨2 * u.val + l.val / 64, by omega⟩
  unfold tile
  rw [stored_apply _ _ _ u r l _ (placed_ne_top _ top (512 * st.val + 128 * j.val))
      (fun s => tileScores_apply arg3 harg3 arg4 harg4 arg5 harg5 arg6 harg6 rq rk hi hq hk j h u r l s)
      (z (ix1 (head h ⟨2 * u.val + l.val / 64, by omega⟩))).toReal (by rw [ldSink_apply, headOf_lane, hz]; exact rz _)]
  refine placed_soft _ _ (fun n hn => ?_) _ _
    (fun s n hn => keys_apply arg7 harg7 arg8 harg8 arg9 harg9 hv j h s l n hn) _
  unfold score
  rw [if_neg]
  intro hc
  simp only at hc
  exact hn ⟨n.val + 128 - (512 * st.val + 128 * j.val), by omega⟩ (by simp only; omega)

end Tiles

end Cert.Proof.Tile

end
-- ==== Proof.Out.lean ====
/- The kernel's result array is the attention: the blocks a grid point reads hold its parts of the arguments, and the
   tiles that it stores cover its output block. -/
module

public import proofs.«01_k».proof.Proof.TileAttn
public import proofs.«01_k».proof.Proof.Gen.KernelIdeal.Value
public import Idealize.ShloMosaic.Lib.Claim
public import Idealize.ShloMosaic.Lib.Pipeline.ValueKit

@[expose] public section

noncomputable section

namespace Cert.Proof.Out

open Cert.KernelIdeal Cert.KernelIdeal.Gen Idealize.ShloMosaic Idealize.ShloMosaic.TcCoe Idealize.SL.Sem Cert.Proof.Attn Cert.Proof.Tile

variable (m : (ℓ : Loc nD τ sig) → Buf (Elt Ideal) ℓ) (c : Dev nD)

/-- The arguments as plain arrays. -/
def argQ : Qs := m (c.tc.loc main_arg0)
def argK : Ks := m (c.tc.loc main_arg1)
def argV : Ks := m (c.tc.loc main_arg2)
def argZ : Sinks := m (c.tc.loc main_arg3)

/-! What the host hands to the kernel. -/

theorem eighth : Ideal.ofBits FTy.f32 1040187392#32 = ((1 / 8 : ℝ) : EReal) := by
  simp [Ideal.ofBits, Ideal.ieee, -EReal.coe_mul]; norm_num

theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee, -EReal.coe_mul]; norm_num
  rw [h, Ideal.log_coe, if_neg (by norm_num)]

theorem host_q (x : Vec Ideal S16x2048x4x4x64 .f32) (r : Fin 32768) (l : Fin 1024) :
    truncf (F := Ideal) FTy.bf16
      (Host.divf
        (mulf (shapeCast S32768x1024 x shapeCasts_S16x2048x4x4x64_S32768x1024)
          (broadcastInDim S32768x1024 ![] bcast_S_S32768x1024 (constant S_ FTy.f32 1040187392#32)))
        (broadcastInDim S32768x1024 ![] bcast_S_S32768x1024 (Host.log (constant S_ FTy.f32 1073741824#32))))
      bitsLt_bf16_f32 (ix2 r l)
    = x (ix5 (⟨r.val / 2048, by omega⟩ : Fin 16) (⟨r.val % 2048, by omega⟩ : Fin 2048) (⟨l.val / 256, by omega⟩ : Fin 4)
        (⟨l.val / 64 % 4, by omega⟩ : Fin 4) (⟨l.val % 64, by omega⟩ : Fin 64)) * ((1 / 8 : ℝ) : EReal)
      * (((Real.log 2)⁻¹ : ℝ) : EReal) := by
  have h2 : (0 : ℝ) < Real.log 2 := Real.log_pos (by norm_num)
  pointwise
  rw [eighth, log_two, Ideal.div_coe (by positivity), one_div (Real.log 2)]

theorem host_k (x : Vec Ideal S16x2048x4x64 .f32) (r : Fin 32768) (l : Fin 512) :
    truncf (F := Ideal) FTy.bf16
      (shapeCast S32768x512
        (broadcastInDim S16x2048x4x2x64 ![0, 1, 2, 3, 4] bcast_S16x2048x4x1x64_S16x2048x4x2x64_0_1_2_3_4
          (broadcastInDim S16x2048x4x1x64 ![0, 1, 2, 4] bcast_S16x2048x4x64_S16x2048x4x1x64_0_1_2_4 x))
        shapeCasts_S16x2048x4x2x64_S32768x512)
      bitsLt_bf16_f32 (ix2 r l)
    = x (ix4 (⟨r.val / 2048, by omega⟩ : Fin 16) (⟨r.val % 2048, by omega⟩ : Fin 2048) (⟨l.val / 128, by omega⟩ : Fin 4)
        (⟨l.val % 64, by omega⟩ : Fin 64)) := by
  pointwise

/-- The arrays the kernel is called with. -/
def hostQ : Vec Ideal S32768x1024 .bf16 := V m c main_v6
def hostK : Vec Ideal S32768x512 .bf16 := V m c main_v10
def hostV : Vec Ideal S32768x512 .bf16 := V m c main_v14

theorem v6_apply (r : Fin 32768) (l : Fin 1024) :
    hostQ m c (ix2 r l)
    = argQ m c (ix5 (⟨r.val / 2048, by omega⟩ : Fin 16) (⟨r.val % 2048, by omega⟩ : Fin 2048)
        (⟨l.val / 256, by omega⟩ : Fin 4) (⟨l.val / 64 % 4, by omega⟩ : Fin 4) (⟨l.val % 64, by omega⟩ : Fin 64))
      * ((1 / 8 : ℝ) : EReal) * (((Real.log 2)⁻¹ : ℝ) : EReal) := by
  unfold hostQ
  entry_read
  exact host_q _ r l

theorem v10_apply (r : Fin 32768) (l : Fin 512) :
    hostK m c (ix2 r l)
    = argK m c (ix4 (⟨r.val / 2048, by omega⟩ : Fin 16) (⟨r.val % 2048, by omega⟩ : Fin 2048)
        (⟨l.val / 128, by omega⟩ : Fin 4) (⟨l.val % 64, by omega⟩ : Fin 64)) := by
  unfold hostK
  entry_read
  exact host_k _ r l

theorem v14_apply (r : Fin 32768) (l : Fin 512) :
    hostV m c (ix2 r l)
    = argV m c (ix4 (⟨r.val / 2048, by omega⟩ : Fin 16) (⟨r.val % 2048, by omega⟩ : Fin 2048)
        (⟨l.val / 128, by omega⟩ : Fin 4) (⟨l.val % 64, by omega⟩ : Fin 64)) := by
  unfold hostV
  entry_read
  exact host_k _ r l

/-! What each grid point reads. -/

theorem points (t : Fin cfg0.N) : t.val < 64 := lt_of_lt_of_eq t.isLt (by decide +kernel)

theorem step_eq : ∀ t : Fin cfg0.N, (grid0.coords t 1).val = t.val % 4 := by decide +kernel

theorem idx0 : ∀ t : Fin cfg0.N, win0_0.index t 0 = 0 := by decide +kernel
theorem idx1 : ∀ t : Fin cfg0.N, win0_1.index t 0 = t.val ∧ win0_1.index t 1 = 0 := by decide +kernel
theorem idx2 : ∀ t : Fin cfg0.N, (t.val % 4 ≠ 0 → win0_2.index t 0 + 1 = 4 * t.val) ∧ win0_2.index t 1 = 0 := by decide +kernel
theorem idx3 : ∀ t : Fin cfg0.N, win0_3.index t 0 = t.val ∧ win0_3.index t 1 = 0 := by decide +kernel
theorem idx4 : ∀ t : Fin cfg0.N, (t.val % 4 ≠ 3 → win0_4.index t 0 = 4 * t.val + 4) ∧ win0_4.index t 1 = 0 := by decide +kernel
theorem idx5 : ∀ t : Fin cfg0.N, (t.val % 4 ≠ 0 → win0_5.index t 0 + 1 = 4 * t.val) ∧ win0_5.index t 1 = 0 := by decide +kernel
theorem idx6 : ∀ t : Fin cfg0.N, win0_6.index t 0 = t.val ∧ win0_6.index t 1 = 0 := by decide +kernel
theorem idx7 : ∀ t : Fin cfg0.N, (t.val % 4 ≠ 3 → win0_7.index t 0 = 4 * t.val + 4) ∧ win0_7.index t 1 = 0 := by decide +kernel
theorem idx8 : ∀ t : Fin cfg0.N, win0_8.index t 0 = t.val ∧ win0_8.index t 1 = 0 := by decide +kernel

/-- The batch and the step of a grid point. -/
def batch (t : Fin cfg0.N) : Fin 16 := ⟨t.val / 4, by have := points t; omega⟩
def step (t : Fin cfg0.N) : Fin 4 := ⟨t.val % 4, by omega⟩

theorem sinks_block (t : Fin cfg0.N) (n : Fin 16) : iblk m c 0 t (ix1 n) = argZ m c (ix1 n) := by
  have h := idx0 t
  unfold argZ
  rw [← V_main_arg3 m c]
  blk_ext [iblk, h]

theorem query_congr' (x : Qs) {b b' : Fin 16} {p p' : Fin 2048} (g h : Fin 4) (d : Fin 64) (hb : b.val = b'.val) (hp : p.val = p'.val) :
    x (ix5 b p g h d) = x (ix5 b' p' g h d) := by rw [Fin.ext hb, Fin.ext hp]

theorem key_congr' (x : Ks) {b b' : Fin 16} {p p' : Fin 2048} (g : Fin 4) (d : Fin 64) (hb : b.val = b'.val) (hp : p.val = p'.val) :
    x (ix4 b p g d) = x (ix4 b' p' g d) := by rw [Fin.ext hb, Fin.ext hp]

theorem q_part (t : Fin cfg0.N) : QPart (argQ m c) (batch t) (step t) (iblk m c 1 t) := by
  intro r l
  obtain ⟨h0, h1⟩ := idx1 t
  have ht := points t
  have e : iblk m c 1 t (ix2 r l) = hostQ m c (ix2 (⟨512 * t.val + r.val, by omega⟩ : Fin 32768) l) := by
    unfold hostQ
    blk_ext [iblk, h0, h1]
  rw [e, v6_apply]
  refine congrArg (· * _) (congrArg (· * _) (query_congr' _ _ _ _ ?_ ?_)) <;> simp only [batch, step] <;> omega

theorem k_part (t : Fin cfg0.N) : KPart (argK m c) (batch t) (step t) (iblk m c 2 t) (iblk m c 3 t) (iblk m c 4 t) := by
  have ht := points t
  refine ⟨fun r l n hn => ?_, fun r l n hn => ?_, fun r l n hn => ?_⟩ <;> simp only [step] at hn
  · obtain ⟨h0, h1⟩ := idx2 t
    have h0 := h0 (by omega)
    have e : iblk m c 2 t (ix2 r l) = hostK m c (ix2 (⟨512 * t.val + r.val - 128, by omega⟩ : Fin 32768) l) := by
      unfold hostK
      blk_ext [iblk, h1]
    rw [e, v10_apply]
    refine key_congr' _ _ _ ?_ ?_ <;> simp only [batch] <;> omega
  · obtain ⟨h0, h1⟩ := idx3 t
    have e : iblk m c 3 t (ix2 r l) = hostK m c (ix2 (⟨512 * t.val + r.val, by omega⟩ : Fin 32768) l) := by
      unfold hostK
      blk_ext [iblk, h0, h1]
    rw [e, v10_apply]
    refine key_congr' _ _ _ ?_ ?_ <;> simp only [batch] <;> omega
  · obtain ⟨h0, h1⟩ := idx4 t
    have h0 := h0 (by omega)
    have e : iblk m c 4 t (ix2 r l) = hostK m c (ix2 (⟨512 * t.val + r.val + 512, by omega⟩ : Fin 32768) l) := by
      unfold hostK
      blk_ext [iblk, h0, h1]
    rw [e, v10_apply]
    refine key_congr' _ _ _ ?_ ?_ <;> simp only [batch] <;> omega

theorem v_part (t : Fin cfg0.N) : KPart (argV m c) (batch t) (step t) (iblk m c 5 t) (iblk m c 6 t) (iblk m c 7 t) := by
  have ht := points t
  refine ⟨fun r l n hn => ?_, fun r l n hn => ?_, fun r l n hn => ?_⟩ <;> simp only [step] at hn
  · obtain ⟨h0, h1⟩ := idx5 t
    have h0 := h0 (by omega)
    have e : iblk m c 5 t (ix2 r l) = hostV m c (ix2 (⟨512 * t.val + r.val - 128, by omega⟩ : Fin 32768) l) := by
      unfold hostV
      blk_ext [iblk, h1]
    rw [e, v14_apply]
    refine key_congr' _ _ _ ?_ ?_ <;> simp only [batch] <;> omega
  · obtain ⟨h0, h1⟩ := idx6 t
    have e : iblk m c 6 t (ix2 r l) = hostV m c (ix2 (⟨512 * t.val + r.val, by omega⟩ : Fin 32768) l) := by
      unfold hostV
      blk_ext [iblk, h0, h1]
    rw [e, v14_apply]
    refine key_congr' _ _ _ ?_ ?_ <;> simp only [batch] <;> omega
  · obtain ⟨h0, h1⟩ := idx7 t
    have h0 := h0 (by omega)
    have e : iblk m c 7 t (ix2 r l) = hostV m c (ix2 (⟨512 * t.val + r.val + 512, by omega⟩ : Fin 32768) l) := by
      unfold hostV
      blk_ext [iblk, h0, h1]
    rw [e, v14_apply]
    refine key_congr' _ _ _ ?_ ?_ <;> simp only [batch] <;> omega

/-! What it leaves. -/

/-- The attention over the result array's places. -/
def whole (q : Qs) (k v : Ks) (z : Sinks) (r : Fin 32768) (l : Fin 1024) : EReal :=
  attn q k v z (⟨r.val / 2048, by omega⟩ : Fin 16) (⟨r.val % 2048, by omega⟩ : Fin 2048) (⟨l.val / 256, by omega⟩ : Fin 4)
    (⟨l.val / 64 % 4, by omega⟩ : Fin 4) (⟨l.val % 64, by omega⟩ : Fin 64)

theorem attn_congr (q : Qs) (k v : Ks) (z : Sinks) {b b' : Fin 16} {p p' : Fin 2048} {g g' h h' : Fin 4} {d d' : Fin 64}
    (hb : b.val = b'.val) (hp : p.val = p'.val) (hg : g.val = g'.val) (hh : h.val = h'.val) (hd : d.val = d'.val) :
    attn q k v z b p g h d = attn q k v z b' p' g' h' d' := by
  rw [Fin.ext hb, Fin.ext hp, Fin.ext hg, Fin.ext hh, Fin.ext hd]

theorem block_apply (rq : Attn.Real (argQ m c)) (rk : Attn.Real (argK m c)) (rz : Attn.Real (argZ m c)) (t : Fin cfg0.N)
    (r : Fin 512) (l : Fin 1024) :
    outsAt0 m c t (ix2 r l)
      = whole (argQ m c) (argK m c) (argV m c) (argZ m c) ⟨512 * t.val + r.val, by have := points t; omega⟩ l := by
  have ht := points t
  unfold outsAt0 out0_A_8
  rw [View.read_writes_junk_eq_canon, stores]
  refine View.canon_ofFn_unit_eq_of_forall (S := S512x1024) off S128x128.size inb_off _ _ _ ?_ fun n x hx => ?_
  · refine ⟨⟨31 - (8 * (r.val / 128) + l.val / 128), by omega⟩, Fin.forall_fin_two.2 ⟨⟨?_, ?_⟩, ?_, ?_⟩⟩
    · show 128 * ((31 - (31 - (8 * (r.val / 128) + l.val / 128))) / 8) ≤ r.val
      omega
    · show r.val < 128 * ((31 - (31 - (8 * (r.val / 128) + l.val / 128))) / 8) + 128
      omega
    · show 128 * ((31 - (31 - (8 * (r.val / 128) + l.val / 128))) % 8) ≤ l.val
      omega
    · show l.val < 128 * ((31 - (31 - (8 * (r.val / 128) + l.val / 128))) % 8) + 128
      omega
  · have h0 : r.val = 128 * ((31 - n.val) / 8) + (x 0).val := hx 0
    have h1 : l.val = 128 * ((31 - n.val) % 8) + (x 1).val := hx 1
    have b0 : (x 0).val < 128 := (x 0).isLt
    have b1 : (x 1).val < 128 := (x 1).isLt
    rw [eq_ix2 x]
    refine (tile_apply _ _ _ _ _ _ _ _ _ _ _ _ _ _ _ _ rq rk rz (step_eq t) (sinks_block m c t) (q_part m c t) (k_part m c t) (v_part m c t)
      (blockAt n) (keyHeadAt n) (pairAt n) ⟨(x 0).val, b0⟩ ⟨(x 1).val, b1⟩).trans ?_
    refine attn_congr _ _ _ _ ?_ ?_ ?_ ?_ ?_ <;> simp only [batch, step, blockAt, keyHeadAt, pairAt] <;> omega

theorem result (rq : Attn.Real (argQ m c)) (rk : Attn.Real (argK m c)) (rz : Attn.Real (argZ m c)) :
    (dats m 0 c).arrAt 8 cfg0.N
      = fun i : S32768x1024.Idx => whole (argQ m c) (argK m c) (argV m c) (argZ m c) (i 0) (i 1) := by
  refine (dats m 0 c).arrAt_eq_of_covers 8 _ (by decide +kernel) fun t hf y => ?_
  blk_simp
  rw [after0_8]
  obtain ⟨h0, h1⟩ := idx8 t
  have e := block_apply m c rq rk rz t (y 0) (y 1)
  rw [← eq_ix2 y] at e
  rw [e]
  refine congrArg₂ _ (Fin.ext ?_) (Fin.ext ?_)
  · show 512 * t.val + (y 0).val = _
    blk_simp [h0]
    omega
  · blk_simp [h1]

end Cert.Proof.Out

end
-- ==== Proof.Real.lean ====
/- What the precondition says of an array: its elements are real numbers. -/
module

public import proofs.«01_k».proof.Proof.Attn

@[expose] public section

noncomputable section

namespace Cert.Proof.Attn

open Idealize.ShloMosaic

theorem infinity : Ideal.ofBits FTy.f32 0x7F800000#32 = ⊤ := by
  simp [Ideal.ofBits, Ideal.ieee]

theorem real_of_finite {s : Shape} (x : FVec Ideal s .f32) (h : (⟨0, ![]⟩ : Shape).BroadcastsInDim s ![])
    (hx : cmpf .olt (Host.absf x) (broadcastInDim s ![] h (constant (F := Ideal) ⟨0, ![]⟩ .f32 0x7F800000#32)) = fun _ => 1#1) :
    Real x := by
  intro i
  have e := congrFun hx i
  pointwise at e
  rw [infinity, show FloatOps.absf (x i) = max (x i : EReal) (-(x i)) from rfl] at e
  have lt : max (x i : EReal) (-(x i)) < ⊤ := by
    by_contra hn
    rw [decide_eq_false hn] at e
    exact absurd e (by decide)
  have ht : (x i : EReal) ≠ ⊤ := (lt_of_le_of_lt (le_max_left _ _) lt).ne
  have hb : (x i : EReal) ≠ ⊥ := fun hb => (lt_of_le_of_lt (le_max_right _ _) lt).ne (by rw [hb]; rfl)
  exact (EReal.coe_toReal ht hb).symm

end Cert.Proof.Attn

end
-- ==== Proof.Equal.lean ====
/- The two idealized programs leave the same result. -/
module

public import proofs.«01_k».proof.Defs
public import proofs.«01_k».proof.Proof.Ref
public import proofs.«01_k».proof.Proof.Out
public import proofs.«01_k».proof.Proof.Real
public import proofs.«01_k».proof.Proof.Gen.Pre_finite

@[expose] public section

noncomputable section

namespace Cert.Proof

open Idealize.ShloMosaic Idealize.SL.Sem Cert.Proof.Attn Cert.Proof.Out

theorem equal : Cert.algebraic_KernelIdeal_ReferenceIdeal_pre_finite := by
  intro m g m' g' pre agree
  refine ⟨fun c => (Cert.KernelIdeal.Gen.dats m 0 c).arrAt 8 Cert.KernelIdeal.cfg0.N, Cert.KernelIdeal.Value.run_blocks m g,
    (θ_run Cert.ReferenceIdeal.defs _ _).mono (fun r h c => ⟨(h c).1.trans ?_, (h c).2⟩) (Cert.ReferenceIdeal.Value.run (F := Ideal) m' g')⟩
  obtain ⟨fq, fk, fz⟩ := pre c
  obtain ⟨aq, ak, av, az⟩ := agree c
  have rq : Attn.Real (argQ m c) := real_of_finite _ _ fq
  have rk : Attn.Real (argK m c) := real_of_finite _ _ fk
  have rz : Attn.Real (argZ m c) := real_of_finite _ _ fz
  refine Eq.trans (funext fun i => ?_) (result m c rq rk rz).symm
  have e := Ref.ref_apply m' c (argQ m c) (argK m c) (argV m c) (argZ m c) aq ak av az rq rk rz (i 0) (i 1)
  rw [← eq_ix2 i] at e
  exact e

end Cert.Proof

end
-- ==== Proof.InMath.lean ====
/- The in-projection over plain arrays of extended reals: the normalised rows by the weight, its columns in the order of
   the call's result, and from it the rotated queries and keys and the values. -/
module

public import Idealize.ShloMosaic.Adequacy
public import Idealize.ShloMosaic.Init
public import Idealize.ShloMosaic.Lib.Pointwise

@[expose] public section

noncomputable section

namespace Cert.Proof.InMath

open Idealize.ShloMosaic

/-- The input: batch, position, channel. -/
abbrev Xs := (⟨3, ![16, 2048, 1024]⟩ : Shape).Idx → EReal
abbrev Gains := (⟨1, ![1024]⟩ : Shape).Idx → EReal
abbrev Ws := (⟨2, ![1024, 8768]⟩ : Shape).Idx → EReal
abbrev HeadGains := (⟨1, ![64]⟩ : Shape).Idx → EReal
/-- The cosines or the sines: position, angle. -/
abbrev Angles := (⟨2, ![2048, 32]⟩ : Shape).Idx → EReal

def eps : EReal := Ideal.ofBits .f32 0x358637BD#32

/-- A row divided by the root of its mean square, `count` numbers long, with a gain. -/
def unit {n : ℕ} (count : EReal) (v g : Fin n → EReal) (k : Fin n) : EReal :=
  v k * Ideal.rsqrt (Ideal.div (∑ j, v j * v j) count + eps) * g k

/-- The rotation of the pairs of lanes `d` and `d + 32`. -/
def rope (y : Fin 64 → EReal) (c s : Fin 32 → EReal) (d : Fin 64) : EReal :=
  if h : d.val < 32 then y d * c ⟨d.val, h⟩ - y ⟨d.val + 32, by omega⟩ * s ⟨d.val, h⟩
  else y d * c ⟨d.val - 32, by omega⟩ + y ⟨d.val - 32, by omega⟩ * s ⟨d.val - 32, by omega⟩

def hid (x : Xs) (g : Gains) (b : Fin 16) (p : Fin 2048) : Fin 1024 → EReal :=
  unit (Ideal.ofBits .f32 0x44800000#32) (fun k => x (ix3 b p k)) fun k => g (ix1 k)

/-- The projection. -/
def proj (x : Xs) (g : Gains) (w : Ws) (b : Fin 16) (p : Fin 2048) (n : Fin 8768) : EReal :=
  ∑ k, hid x g b p k * w (ix2 k n)

/-- A row's 8768 columns in the order of the result, and 64 zeros. -/
def cols (f : Fin 8768 → EReal) (n : Fin 8832) : EReal :=
  if n.val < 2048 then f ⟨1536 + n.val % 2048, by omega⟩
  else if n.val < 4096 then f ⟨6720 + n.val % 2048, by omega⟩
  else if n.val < 7168 then f ⟨3584 + (n.val - 4096) % 3072, by omega⟩
  else if n.val < 8704 then f ⟨(n.val - 7168) % 1536, by omega⟩
  else if n.val < 8768 then f ⟨6656 + (n.val - 8704) % 64, by omega⟩
  else 0

/-- A head's rotated lanes, the head starting at column `o`. -/
def head (f : Fin 8768 → EReal) (o : ℕ) (h : o + 64 ≤ 8768) (g : HeadGains) (c s : Angles) (p : Fin 2048) :
    Fin 64 → EReal :=
  rope (unit (Ideal.ofBits .f32 0x42800000#32) (fun d => f ⟨o + d.val, by omega⟩) fun d => g (ix1 d))
    (fun d => c (ix2 p d)) fun d => s (ix2 p d)

def query (f : Fin 8768 → EReal) (h : Fin 16) (g : HeadGains) (c s : Angles) (p : Fin 2048) (d : Fin 64) : EReal :=
  head f (64 * h.val) (by omega) g c s p d * (((Real.log 256)⁻¹ : ℝ) : EReal)

def key (f : Fin 8768 → EReal) (h : Fin 4) (g : HeadGains) (c s : Angles) (p : Fin 2048) (d : Fin 64) : EReal :=
  head f (1024 + 64 * h.val) (by omega) g c s p d

def value (f : Fin 8768 → EReal) (h : Fin 4) (d : Fin 64) : EReal := f ⟨1280 + 64 * h.val + d.val, by omega⟩

/-! The five results, a row of each batch and position. -/

def bat (r : Fin 32768) : Fin 16 := ⟨r.val / 2048, by omega⟩
def pos (r : Fin 32768) : Fin 2048 := ⟨r.val % 2048, by omega⟩

def row (x : Xs) (g : Gains) (w : Ws) (r : Fin 32768) : Fin 8768 → EReal := proj x g w (bat r) (pos r)

def res0 (x : Xs) (g : Gains) (w : Ws) : (⟨2, ![32768, 8832]⟩ : Shape).Idx → EReal :=
  fun y => cols (row x g w (y 0)) (y 1)
def res1 (x : Xs) (g : Gains) (w : Ws) : (⟨2, ![32768, 128]⟩ : Shape).Idx → EReal :=
  fun y => cols (row x g w (y 0)) ⟨8704 + (y 1).val, by have h : (y 1).val < 128 := (y 1).isLt; omega⟩
def res2 (x : Xs) (g : Gains) (w : Ws) (qg : HeadGains) (c s : Angles) : (⟨2, ![32768, 1024]⟩ : Shape).Idx → EReal :=
  fun y => query (row x g w (y 0)) ⟨(y 1).val / 64, by have h : (y 1).val < 1024 := (y 1).isLt; omega⟩ qg c s (pos (y 0))
    ⟨(y 1).val % 64, by omega⟩
def res3 (x : Xs) (g : Gains) (w : Ws) (kg : HeadGains) (c s : Angles) : (⟨2, ![32768, 512]⟩ : Shape).Idx → EReal :=
  fun y => key (row x g w (y 0)) ⟨(y 1).val / 128, by have h : (y 1).val < 512 := (y 1).isLt; omega⟩ kg c s (pos (y 0))
    ⟨(y 1).val % 64, by omega⟩
def res4 (x : Xs) (g : Gains) (w : Ws) : (⟨2, ![32768, 512]⟩ : Shape).Idx → EReal :=
  fun y => value (row x g w (y 0)) ⟨(y 1).val / 128, by have h : (y 1).val < 512 := (y 1).isLt; omega⟩
    ⟨(y 1).val % 64, by omega⟩

end Cert.Proof.InMath

end
-- ==== Proof.InRef.lean ====
/- The in-projection's reference, index by index. -/
module

public import proofs.«01_k».proof.Proof.Gen.InReferenceIdeal.Run
public import proofs.«01_k».proof.Proof.InMath

@[expose] public section

set_option maxRecDepth 16384

noncomputable section

namespace Cert.Proof.InRef

open Idealize.ShloMosaic Cert.InReferenceIdeal Cert.InReferenceIdeal.Gen Idealize.SL.Sem Cert.Proof.InMath

/-! The reference's terms: the projection, and the five results of it. -/

abbrev Proj := FVec Ideal S16x2048x8768 .f32

def refProj (x : FVec Ideal S16x2048x1024 .f32) (g : FVec Ideal S1024 .f32) (w : FVec Ideal S1024x8768 .f32) : Proj :=
  Host.dotGeneral dot_S16x2048x1024_S1024x8768_S16x2048x8768_2_0_01_1_n_n none
    (mulf (mulf x (broadcastInDim S16x2048x1024 ![0, 1, 2] bcast_S16x2048x1_S16x2048x1024_0_1_2
        (Host.rsqrt (addf (Host.divf (broadcastInDim S16x2048x1 ![0, 1] bcast_S16x2048_S16x2048x1_0_1
            (Host.reduceAdd (mulf x x) (constant S_ .f32 0x00000000#32) reducesTo_S16x2048x1024_S16x2048_d2 h_S_))
          (broadcastInDim S16x2048x1 ![] bcast_S_S16x2048x1 (constant S_ .f32 0x44800000#32)))
          (broadcastInDim S16x2048x1 ![] bcast_S_S16x2048x1 (constant S_ .f32 0x358637BD#32))))))
      (broadcastInDim S16x2048x1024 ![0, 1, 2] bcast_S1x1x1024_S16x2048x1024_0_1_2
        (broadcastInDim S1x1x1024 ![2] bcast_S1024_S1x1x1024_2 g))) w

theorem refProj_apply (x : FVec Ideal S16x2048x1024 .f32) (g : FVec Ideal S1024 .f32) (w : FVec Ideal S1024x8768 .f32)
    (b : Fin 16) (p : Fin 2048) (n : Fin 8768) : refProj x g w (ix3 b p n) = proj x g w b p n := by
  unfold refProj proj hid unit eps
  pointwise

def refCols (P : Proj) : FVec Ideal S16x2048x8832 .f32 :=
  concatenate S16x2048x8832 2 [⟨S16x2048x2048, extractStridedSlice S16x2048x2048 ![0, 0, 1536] P slices_S16x2048x8768_S16x2048x2048_0_0_1536⟩,
    ⟨S16x2048x1024, extractStridedSlice S16x2048x1024 ![0, 0, 6720] P slices_S16x2048x8768_S16x2048x1024_0_0_6720⟩,
    ⟨S16x2048x1024, extractStridedSlice S16x2048x1024 ![0, 0, 7744] P slices_S16x2048x8768_S16x2048x1024_0_0_7744⟩,
    ⟨S16x2048x3072, extractStridedSlice S16x2048x3072 ![0, 0, 3584] P slices_S16x2048x8768_S16x2048x3072_0_0_3584⟩,
    ⟨S16x2048x1024, extractStridedSlice S16x2048x1024 ![0, 0, 0] P slices_S16x2048x8768_S16x2048x1024_0_0_0⟩,
    ⟨S16x2048x256, extractStridedSlice S16x2048x256 ![0, 0, 1024] P slices_S16x2048x8768_S16x2048x256_0_0_1024⟩,
    ⟨S16x2048x256, extractStridedSlice S16x2048x256 ![0, 0, 1280] P slices_S16x2048x8768_S16x2048x256_0_0_1280⟩,
    ⟨S16x2048x32, extractStridedSlice S16x2048x32 ![0, 0, 6656] P slices_S16x2048x8768_S16x2048x32_0_0_6656⟩,
    ⟨S16x2048x32, extractStridedSlice S16x2048x32 ![0, 0, 6688] P slices_S16x2048x8768_S16x2048x32_0_0_6688⟩,
    ⟨S16x2048x64, broadcastInDim S16x2048x64 ![] bcast_S_S16x2048x64 (constant S_ .f32 0x00000000#32)⟩]
    concatenates_S16x2048x2048_S16x2048x1024_S16x2048x1024_S16x2048x3072_S16x2048x1024_S16x2048x256_S16x2048x256_S16x2048x32_S16x2048x32_S16x2048x64_S16x2048x8832_d2

theorem refCols_apply (P : Proj) (b : Fin 16) (p : Fin 2048) (n : Fin 8832) :
    refCols P (ix3 b p n) = cols (fun k => P (ix3 b p k)) n := by
  have e : ∀ i j : Fin 8768, i.val = j.val → P (ix3 b p i) = P (ix3 b p j) := fun i j h => by rw [Fin.ext h]
  generalize hR : cols (fun k => P (ix3 b p k)) n = R
  unfold refCols
  pointwise
  subst hR
  unfold cols
  by_cases h0 : n.val < 2048
  · exact (dif_pos h0).trans ((e _ _ (by dsimp only; omega)).trans (if_pos (by omega)).symm)
  refine (dif_neg h0).trans (Eq.trans ?_ (if_neg (by omega)).symm)
  by_cases h1 : n.val - 2048 < 1024
  · exact (dif_pos h1).trans ((e _ _ (by dsimp only; omega)).trans (if_pos (by omega)).symm)
  refine (dif_neg h1).trans ?_
  by_cases h2 : n.val - 2048 - 1024 < 1024
  · exact (dif_pos h2).trans ((e _ _ (by dsimp only; omega)).trans (if_pos (by omega)).symm)
  refine (dif_neg h2).trans (Eq.trans ?_ (if_neg (by omega)).symm)
  by_cases h3 : n.val - 2048 - 1024 - 1024 < 3072
  · exact (dif_pos h3).trans ((e _ _ (by dsimp only; omega)).trans (if_pos (by omega)).symm)
  refine (dif_neg h3).trans (Eq.trans ?_ (if_neg (by omega)).symm)
  by_cases h4 : n.val - 2048 - 1024 - 1024 - 3072 < 1024
  · exact (dif_pos h4).trans ((e _ _ (by dsimp only; omega)).trans (if_pos (by omega)).symm)
  refine (dif_neg h4).trans ?_
  by_cases h5 : n.val - 2048 - 1024 - 1024 - 3072 - 1024 < 256
  · exact (dif_pos h5).trans ((e _ _ (by dsimp only; omega)).trans (if_pos (by omega)).symm)
  refine (dif_neg h5).trans ?_
  by_cases h6 : n.val - 2048 - 1024 - 1024 - 3072 - 1024 - 256 < 256
  · exact (dif_pos h6).trans ((e _ _ (by dsimp only; omega)).trans (if_pos (by omega)).symm)
  refine (dif_neg h6).trans (Eq.trans ?_ (if_neg (by omega)).symm)
  by_cases h7 : n.val - 2048 - 1024 - 1024 - 3072 - 1024 - 256 - 256 < 32
  · exact (dif_pos h7).trans ((e _ _ (by dsimp only; omega)).trans (if_pos (by omega)).symm)
  refine (dif_neg h7).trans ?_
  by_cases h8 : n.val - 2048 - 1024 - 1024 - 3072 - 1024 - 256 - 256 - 32 < 32
  · exact (dif_pos h8).trans ((e _ _ (by dsimp only; omega)).trans (if_pos (by omega)).symm)
  exact (dif_neg h8).trans (if_neg (by omega)).symm

def ref0 (P : Proj) : FVec Ideal S32768x8832 .bf16 := truncf .bf16 (shapeCast _ (refCols P) shapeCasts_S16x2048x8832_S32768x8832) bitsLt_bf16_f32

theorem ref0_apply (P : Proj) (r : Fin 32768) (n : Fin 8832) : ref0 P (ix2 r n) = cols (fun k => P (ix3 (bat r) (pos r) k)) n := by
  rw [← refCols_apply]
  unfold ref0
  generalize refCols P = y
  pointwise
  rfl

def refDt (P : Proj) : FVec Ideal S16x2048x128 .f32 :=
  concatenate S16x2048x128 2 [⟨S16x2048x32, extractStridedSlice S16x2048x32 ![0, 0, 6656] P slices_S16x2048x8768_S16x2048x32_0_0_6656⟩, ⟨S16x2048x32, extractStridedSlice S16x2048x32 ![0, 0, 6688] P slices_S16x2048x8768_S16x2048x32_0_0_6688⟩, ⟨S16x2048x64, broadcastInDim S16x2048x64 ![] bcast_S_S16x2048x64 (constant S_ .f32 0x00000000#32)⟩] concatenates_S16x2048x32_S16x2048x32_S16x2048x64_S16x2048x128_d2

theorem refDt_apply (P : Proj) (b : Fin 16) (p : Fin 2048) (n : Fin 128) :
    refDt P (ix3 b p n) = cols (fun k => P (ix3 b p k)) ⟨8704 + n.val, by omega⟩ := by
  have e : ∀ i j : Fin 8768, i.val = j.val → P (ix3 b p i) = P (ix3 b p j) := fun i j h => by rw [Fin.ext h]
  generalize hR : cols (fun k => P (ix3 b p k)) _ = R
  unfold refDt
  pointwise
  subst hR
  unfold cols
  refine Eq.trans ?_ ((if_neg (by dsimp only; omega)).trans ((if_neg (by dsimp only; omega)).trans ((if_neg (by dsimp only; omega)).trans (if_neg (by dsimp only; omega))))).symm
  by_cases h0 : n.val < 32
  · exact (dif_pos h0).trans ((e _ _ (by dsimp only; omega)).trans (if_pos (by dsimp only; omega)).symm)
  refine (dif_neg h0).trans ?_
  by_cases h1 : n.val - 32 < 32
  · exact (dif_pos h1).trans ((e _ _ (by dsimp only; omega)).trans (if_pos (by dsimp only; omega)).symm)
  exact (dif_neg h1).trans (if_neg (by dsimp only; omega)).symm

def ref1 (P : Proj) : FVec Ideal S32768x128 .f32 := shapeCast _ (refDt P) shapeCasts_S16x2048x128_S32768x128

theorem ref1_apply (P : Proj) (r : Fin 32768) (n : Fin 128) :
    ref1 P (ix2 r n) = cols (fun k => P (ix3 (bat r) (pos r) k)) ⟨8704 + n.val, by omega⟩ := by
  rw [← refDt_apply]
  unfold ref1
  generalize refDt P = y
  pointwise
  rfl

/-! Heads of 64 lanes, sixteen for the queries and four for the keys: normalised, and rotated. -/

abbrev Heads (n : ℕ) : Shape := ⟨4, ![16, 2048, n, 64]⟩
abbrev Halves (n : ℕ) : Shape := ⟨4, ![16, 2048, n, 32]⟩
abbrev Sums (n : ℕ) : Shape := ⟨3, ![16, 2048, n]⟩
abbrev Roots (n : ℕ) : Shape := ⟨4, ![16, 2048, n, 1]⟩

/-- What the reference's operations on `n` heads ask of the shapes. -/
structure Fits (n : ℕ) : Prop where
  red : (Heads n).ReducesTo [3] (Sums n)
  sums : (Sums n).BroadcastsInDim (Roots n) (![0, 1, 2] : Fin 3 → Fin (Roots n).rank)
  one : S_.BroadcastsInDim (Roots n) (![] : Fin 0 → Fin (Roots n).rank)
  roots : (Roots n).BroadcastsInDim (Heads n) (![0, 1, 2, 3] : Fin 4 → Fin (Heads n).rank)
  gains : S1x1x1x64.BroadcastsInDim (Heads n) (![0, 1, 2, 3] : Fin 4 → Fin (Heads n).rank)
  first : (Heads n).Slices ![0, 0, 0, 0] (Halves n)
  second : (Heads n).Slices ![0, 0, 0, 32] (Halves n)
  angles : S1x2048x1x32.BroadcastsInDim (Halves n) (![0, 1, 2, 3] : Fin 4 → Fin (Halves n).rank)
  cat : Shape.Concatenates [Halves n, Halves n] (Heads n) 3

theorem fits16 : Fits 16 :=
  ⟨reducesTo_S16x2048x16x64_S16x2048x16_d3, bcast_S16x2048x16_S16x2048x16x1_0_1_2, bcast_S_S16x2048x16x1,
    bcast_S16x2048x16x1_S16x2048x16x64_0_1_2_3, bcast_S1x1x1x64_S16x2048x16x64_0_1_2_3, slices_S16x2048x16x64_S16x2048x16x32_0_0_0_0,
    slices_S16x2048x16x64_S16x2048x16x32_0_0_0_32, bcast_S1x2048x1x32_S16x2048x16x32_0_1_2_3,
    concatenates_S16x2048x16x32_S16x2048x16x32_S16x2048x16x64_d3⟩

theorem fits4 : Fits 4 :=
  ⟨reducesTo_S16x2048x4x64_S16x2048x4_d3, bcast_S16x2048x4_S16x2048x4x1_0_1_2, bcast_S_S16x2048x4x1,
    bcast_S16x2048x4x1_S16x2048x4x64_0_1_2_3, bcast_S1x1x1x64_S16x2048x4x64_0_1_2_3, slices_S16x2048x4x64_S16x2048x4x32_0_0_0_0,
    slices_S16x2048x4x64_S16x2048x4x32_0_0_0_32, bcast_S1x2048x1x32_S16x2048x4x32_0_1_2_3,
    concatenates_S16x2048x4x32_S16x2048x4x32_S16x2048x4x64_d3⟩

section

variable {n : ℕ} (W : Fits n)

def refNorm (q : FVec Ideal (Heads n) .f32) (g : FVec Ideal S64 .f32) : FVec Ideal (Heads n) .f32 :=
  mulf (mulf q (broadcastInDim (Heads n) ![0, 1, 2, 3] W.roots
      (Host.rsqrt (addf (Host.divf (broadcastInDim (Roots n) ![0, 1, 2] W.sums
          (Host.reduceAdd (mulf q q) (constant S_ .f32 0x00000000#32) W.red h_S_))
        (broadcastInDim (Roots n) ![] W.one (constant S_ .f32 0x42800000#32)))
        (broadcastInDim (Roots n) ![] W.one (constant S_ .f32 0x358637BD#32))))))
    (broadcastInDim (Heads n) ![0, 1, 2, 3] W.gains (broadcastInDim S1x1x1x64 ![3] bcast_S64_S1x1x1x64_3 g))

theorem refNorm_apply (hn : n = 4 ∨ n = 16) (q : FVec Ideal (Heads n) .f32) (g : FVec Ideal S64 .f32) (b : Fin 16) (p : Fin 2048) (h : Fin n)
    (d : Fin 64) :
    refNorm W q g (ix4 b p h d)
      = unit (Ideal.ofBits .f32 0x42800000#32) (fun d : Fin 64 => (q (ix4 b p h d) : EReal)) (fun d => (g (ix1 d) : EReal)) d := by
  unfold refNorm unit eps
  rcases hn with rfl | rfl <;> pointwise

def refFirst (y : FVec Ideal (Heads n) .f32) (c s : FVec Ideal S2048x32 .f32) : FVec Ideal (Halves n) .f32 :=
  subf (mulf (extractStridedSlice (Halves n) ![0, 0, 0, 0] y W.first)
      (broadcastInDim (Halves n) ![0, 1, 2, 3] W.angles (broadcastInDim S1x2048x1x32 ![1, 3] bcast_S2048x32_S1x2048x1x32_1_3 c)))
    (mulf (extractStridedSlice (Halves n) ![0, 0, 0, 32] y W.second)
      (broadcastInDim (Halves n) ![0, 1, 2, 3] W.angles (broadcastInDim S1x2048x1x32 ![1, 3] bcast_S2048x32_S1x2048x1x32_1_3 s)))

def refSecond (y : FVec Ideal (Heads n) .f32) (c s : FVec Ideal S2048x32 .f32) : FVec Ideal (Halves n) .f32 :=
  addf (mulf (extractStridedSlice (Halves n) ![0, 0, 0, 32] y W.second)
      (broadcastInDim (Halves n) ![0, 1, 2, 3] W.angles (broadcastInDim S1x2048x1x32 ![1, 3] bcast_S2048x32_S1x2048x1x32_1_3 c)))
    (mulf (extractStridedSlice (Halves n) ![0, 0, 0, 0] y W.first)
      (broadcastInDim (Halves n) ![0, 1, 2, 3] W.angles (broadcastInDim S1x2048x1x32 ![1, 3] bcast_S2048x32_S1x2048x1x32_1_3 s)))

def refRope (y : FVec Ideal (Heads n) .f32) (c s : FVec Ideal S2048x32 .f32) : FVec Ideal (Heads n) .f32 :=
  concatenate (Heads n) 3 [⟨Halves n, refFirst W y c s⟩, ⟨Halves n, refSecond W y c s⟩] W.cat

theorem refFirst_apply (hn : n = 4 ∨ n = 16) (y : FVec Ideal (Heads n) .f32) (c s : FVec Ideal S2048x32 .f32) (b : Fin 16) (p : Fin 2048) (h : Fin n)
    (d : Fin 32) :
    refFirst W y c s (ix4 b p h d) = (y (ix4 b p h (⟨d.val, by omega⟩ : Fin 64)) : EReal) * c (ix2 p d)
      - y (ix4 b p h (⟨32 + d.val, by omega⟩ : Fin 64)) * s (ix2 p d) := by
  unfold refFirst
  rcases hn with rfl | rfl <;> pointwise

theorem refSecond_apply (hn : n = 4 ∨ n = 16) (y : FVec Ideal (Heads n) .f32) (c s : FVec Ideal S2048x32 .f32) (b : Fin 16) (p : Fin 2048) (h : Fin n)
    (d : Fin 32) :
    refSecond W y c s (ix4 b p h d) = (y (ix4 b p h (⟨32 + d.val, by omega⟩ : Fin 64)) : EReal) * c (ix2 p d)
      + y (ix4 b p h (⟨d.val, by omega⟩ : Fin 64)) * s (ix2 p d) := by
  unfold refSecond
  rcases hn with rfl | rfl <;> pointwise

theorem refRope_apply (hn : n = 4 ∨ n = 16) (y : FVec Ideal (Heads n) .f32) (c s : FVec Ideal S2048x32 .f32) (b : Fin 16)
    (p : Fin 2048) (h : Fin n) (d : Fin 64) :
    refRope W y c s (ix4 b p h d)
      = rope (fun d => (y (ix4 b p h d) : EReal)) (fun d => (c (ix2 p d) : EReal)) (fun d => (s (ix2 p d) : EReal)) d := by
  have e : ∀ i j : Fin 64, i.val = j.val → y (ix4 b p h i) = y (ix4 b p h j) := fun i j h => by rw [Fin.ext h]
  have hcat : refRope W y c s (ix4 b p h d) = if hd : d.val < 32 then refFirst W y c s (ix4 b p h (⟨d.val, hd⟩ : Fin 32))
      else refSecond W y c s (ix4 b p h (⟨d.val - 32, by omega⟩ : Fin 32)) := by
    unfold refRope
    generalize refFirst W y c s = y1
    generalize refSecond W y c s = y2
    rcases hn with rfl | rfl <;> pointwise
  rw [hcat]
  unfold rope
  by_cases hd : d.val < 32
  · rw [dif_pos hd, dif_pos hd, refFirst_apply W hn, e ⟨32 + d.val, _⟩ ⟨d.val + 32, by omega⟩ (by dsimp only; omega)]
  · rw [dif_neg hd, dif_neg hd, refSecond_apply W hn, e ⟨32 + (d.val - 32), _⟩ d (by dsimp only; omega)]

end

def qHeads (P : Proj) : FVec Ideal S16x2048x16x64 .f32 :=
  shapeCast _ (extractStridedSlice S16x2048x1024 ![0, 0, 0] P slices_S16x2048x8768_S16x2048x1024_0_0_0) shapeCasts_S16x2048x1024_S16x2048x16x64

theorem qHeads_apply (P : Proj) (b : Fin 16) (p : Fin 2048) (h : Fin 16) (d : Fin 64) :
    qHeads P (ix4 b p h d) = P (ix3 b p (⟨64 * h.val + d.val, by omega⟩ : Fin 8768)) := by
  unfold qHeads
  pointwise
  simp only [mul_comm]

def kHeads (P : Proj) : FVec Ideal S16x2048x4x64 .f32 :=
  shapeCast _ (extractStridedSlice S16x2048x256 ![0, 0, 1024] P slices_S16x2048x8768_S16x2048x256_0_0_1024) shapeCasts_S16x2048x256_S16x2048x4x64

theorem kHeads_apply (P : Proj) (b : Fin 16) (p : Fin 2048) (h : Fin 4) (d : Fin 64) :
    kHeads P (ix4 b p h d) = P (ix3 b p (⟨1024 + 64 * h.val + d.val, by omega⟩ : Fin 8768)) := by
  unfold kHeads
  pointwise
  simp only [mul_comm, add_assoc]

def qScale (y : FVec Ideal S16x2048x16x64 .f32) : FVec Ideal S16x2048x16x64 .f32 :=
  Host.divf (mulf y (broadcastInDim S16x2048x16x64 ![] bcast_S_S16x2048x16x64 (constant S_ .f32 0x3E000000#32)))
    (broadcastInDim S16x2048x16x64 ![] bcast_S_S16x2048x16x64 (Host.log (constant S_ .f32 0x40000000#32)))

theorem scale_eq (y : EReal) :
    Ideal.div (y * Ideal.ofBits .f32 0x3E000000#32) (Ideal.log (Ideal.ofBits .f32 0x40000000#32)) = y * (((Real.log 256)⁻¹ : ℝ) : EReal) := by
  have h1 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : (0 : ℝ) < Real.log 2 := Real.log_pos (by norm_num)
  have h8 : Real.log 256 = 8 * Real.log 2 := by
    rw [show (256 : ℝ) = 2 ^ 8 by norm_num, Real.log_pow]; norm_num
  rw [h1, h2, Ideal.log_coe, if_neg (by norm_num), Ideal.div_coe hl.ne', mul_assoc, ← EReal.coe_mul, h8]
  congr 2
  field_simp

theorem qScale_apply (y : FVec Ideal S16x2048x16x64 .f32) (b : Fin 16) (p : Fin 2048) (h : Fin 16) (d : Fin 64) :
    qScale y (ix4 b p h d) = (y (ix4 b p h d) : EReal) * (((Real.log 256)⁻¹ : ℝ) : EReal) := by
  rw [← scale_eq]
  unfold qScale
  pointwise

def refQ (P : Proj) (g : FVec Ideal S64 .f32) (c s : FVec Ideal S2048x32 .f32) : FVec Ideal S16x2048x16x64 .f32 :=
  qScale (refRope fits16 (refNorm fits16 (qHeads P) g) c s)

theorem refQ_apply (P : Proj) (g : FVec Ideal S64 .f32) (c s : FVec Ideal S2048x32 .f32) (b : Fin 16) (p : Fin 2048)
    (h : Fin 16) (d : Fin 64) : refQ P g c s (ix4 b p h d) = query (fun k => P (ix3 b p k)) h g c s p d := by
  unfold refQ query head
  rw [qScale_apply, refRope_apply fits16 (.inr rfl)]
  simp only [refNorm_apply fits16 (.inr rfl), qHeads_apply]

def ref2 (P : Proj) (g : FVec Ideal S64 .f32) (c s : FVec Ideal S2048x32 .f32) : FVec Ideal S32768x1024 .bf16 :=
  truncf .bf16 (shapeCast _ (refQ P g c s) shapeCasts_S16x2048x16x64_S32768x1024) bitsLt_bf16_f32

theorem ref2_apply (P : Proj) (g : FVec Ideal S64 .f32) (c s : FVec Ideal S2048x32 .f32) (r : Fin 32768) (n : Fin 1024) :
    ref2 P g c s (ix2 r n) = query (fun k => P (ix3 (bat r) (pos r) k)) ⟨n.val / 64, by omega⟩ g c s (pos r) ⟨n.val % 64, by omega⟩ := by
  rw [← refQ_apply]
  unfold ref2
  generalize refQ P g c s = y
  pointwise
  rfl

def refK (P : Proj) (g : FVec Ideal S64 .f32) (c s : FVec Ideal S2048x32 .f32) : FVec Ideal S16x2048x4x64 .f32 :=
  refRope fits4 (refNorm fits4 (kHeads P) g) c s

theorem refK_apply (P : Proj) (g : FVec Ideal S64 .f32) (c s : FVec Ideal S2048x32 .f32) (b : Fin 16) (p : Fin 2048)
    (h : Fin 4) (d : Fin 64) : refK P g c s (ix4 b p h d) = key (fun k => P (ix3 b p k)) h g c s p d := by
  unfold refK key head
  rw [refRope_apply fits4 (.inl rfl)]
  simp only [refNorm_apply fits4 (.inl rfl), kHeads_apply]

def ref3 (P : Proj) (g : FVec Ideal S64 .f32) (c s : FVec Ideal S2048x32 .f32) : FVec Ideal S32768x512 .bf16 :=
  truncf .bf16 (shapeCast _ (broadcastInDim S16x2048x4x2x64 ![0, 1, 2, 3, 4] bcast_S16x2048x4x1x64_S16x2048x4x2x64_0_1_2_3_4
    (broadcastInDim S16x2048x4x1x64 ![0, 1, 2, 4] bcast_S16x2048x4x64_S16x2048x4x1x64_0_1_2_4 (refK P g c s)))
    shapeCasts_S16x2048x4x2x64_S32768x512) bitsLt_bf16_f32

theorem ref3_apply (P : Proj) (g : FVec Ideal S64 .f32) (c s : FVec Ideal S2048x32 .f32) (r : Fin 32768) (n : Fin 512) :
    ref3 P g c s (ix2 r n) = key (fun k => P (ix3 (bat r) (pos r) k)) ⟨n.val / 128, by omega⟩ g c s (pos r) ⟨n.val % 64, by omega⟩ := by
  rw [← refK_apply]
  unfold ref3
  generalize refK P g c s = y
  pointwise
  rfl

def ref4 (P : Proj) : FVec Ideal S32768x512 .bf16 :=
  truncf .bf16 (shapeCast _ (broadcastInDim S16x2048x4x2x64 ![0, 1, 2, 3, 4] bcast_S16x2048x4x1x64_S16x2048x4x2x64_0_1_2_3_4
    (shapeCast S16x2048x4x1x64 (extractStridedSlice S16x2048x256 ![0, 0, 1280] P slices_S16x2048x8768_S16x2048x256_0_0_1280)
      shapeCasts_S16x2048x256_S16x2048x4x1x64)) shapeCasts_S16x2048x4x2x64_S32768x512) bitsLt_bf16_f32

theorem ref4_apply (P : Proj) (r : Fin 32768) (n : Fin 512) :
    ref4 P (ix2 r n) = value (fun k => P (ix3 (bat r) (pos r) k)) ⟨n.val / 128, by omega⟩ ⟨n.val % 64, by omega⟩ := by
  have e : ∀ i j : Fin 8768, i.val = j.val → P (ix3 (bat r) (pos r) i) = P (ix3 (bat r) (pos r) j) := fun i j h => by rw [Fin.ext h]
  unfold ref4 value
  pointwise
  exact e _ _ (by dsimp only; omega)

/-! The run's results are these. -/

open Cert.InReferenceIdeal.Value

variable (m : (ℓ : Loc nD τ sig) → Buf (Elt Ideal) ℓ) (c : Dev nD)

def projOf : Proj := refProj (m ((c.tc : Thread nD τ).loc main_arg0)) (m ((c.tc : Thread nD τ).loc main_arg1)) (m ((c.tc : Thread nD τ).loc main_arg2))

theorem cols_run : res_main_v90 m c = ref0 (projOf m c) := rfl
theorem query_run : res_main_v97 m c = ref2 (projOf m c) (m ((c.tc : Thread nD τ).loc main_arg3)) (m ((c.tc : Thread nD τ).loc main_arg5)) (m ((c.tc : Thread nD τ).loc main_arg6)) := rfl
theorem key_run : res_main_v99 m c = ref3 (projOf m c) (m ((c.tc : Thread nD τ).loc main_arg4)) (m ((c.tc : Thread nD τ).loc main_arg5)) (m ((c.tc : Thread nD τ).loc main_arg6)) := rfl

end Cert.Proof.InRef

end
-- ==== Proof.InTile.lean ====
/- What the in-projection kernel stores at a grid point: the products of the normalised rows with chunks of the weight's
   columns, and from the products' last columns the rotated queries and keys and the values, each as one function for all
   its stores; the run's stores listed by them. -/
module

public import proofs.«01_k».proof.Proof.Gen.InKernelIdeal.Frame

@[expose] public section

noncomputable section

namespace Cert.Proof.InTile

open Cert.InKernelIdeal Cert.InKernelIdeal.Gen Idealize.ShloMosaic Idealize.ShloMosaic.TcCoe Idealize.SL.Sem

variable {F : FTy → Type} [FloatOps F] [Named F]

/-! The products, at the four widths of a chunk. -/

def proj512 (h : Vec F S1024x1024 .bf16) (w : Vec F S1024x512 .bf16) : FVec F S1024x512 .f32 :=
  matmul dot_S1024x1024_S1024x512_S1024x512_1_0_0_1_n_n none h (shapeCast S1024x512 w shapeCasts_S1024x512_S1024x512)
    (constant S1024x512 .f32 0x00000000#32)
def proj384 (h : Vec F S1024x1024 .bf16) (w : Vec F S1024x384 .bf16) : FVec F S1024x384 .f32 :=
  matmul dot_S1024x1024_S1024x384_S1024x384_1_0_0_1_n_n none h (shapeCast S1024x384 w shapeCasts_S1024x384_S1024x384)
    (constant S1024x384 .f32 0x00000000#32)
def proj256 (h : Vec F S1024x1024 .bf16) (w : Vec F S1024x256 .bf16) : FVec F S1024x256 .f32 :=
  matmul dot_S1024x1024_S1024x256_S1024x256_1_0_0_1_n_n none h (shapeCast S1024x256 w shapeCasts_S1024x256_S1024x256)
    (constant S1024x256 .f32 0x00000000#32)
def proj128 (h : Vec F S1024x1024 .bf16) (w : Vec F S1024x128 .bf16) : FVec F S1024x128 .f32 :=
  matmul dot_S1024x1024_S1024x128_S1024x128_1_0_0_1_n_n none h (shapeCast S1024x128 w shapeCasts_S1024x128_S1024x128)
    (constant S1024x128 .f32 0x00000000#32)

/-! The lanes' halves. -/

/-- Lanes 0 to 31 and 64 to 95, as the kernel decides them. -/
def firstHalf : IVec S1024x128 1 :=
  k0_pay14 (iota .tc S1024x128 32 [1] iota_S1024x128_d1_w32) 64#32 k0_pay13
/-- Lanes 0 to 63. -/
def low : IVec S1024x128 1 := k0_pay15 (iota .tc S1024x128 32 [1] iota_S1024x128_d1_w32)

/-- 128 lanes divided by the root of their half's mean square, with the gain. -/
def normed (a : FVec F S1024x128 .f32) (g : Vec F S1x128 .f32) (seg : Vec F S128x128 .bf16) : FVec F S1024x128 .f32 :=
  mulf (mulf a (rsqrt (addf (mulf (matmul dot_S1024x128_S128x128_S1024x128_1_0_0_1_n_n none
      (truncf .bf16 (mulf a a) bitsLt_bf16_f32) seg (constant S1024x128 .f32 0x00000000#32))
      (broadcast S1024x128 (Scalar.ofBits .f32 0x3C800000#32)))
      (broadcast S1024x128 (Scalar.ofBits .f32 0x358637BD#32)))))
    (broadcastTo S1024x128 (shapeCast S1x128 g shapeCasts_S1x128_S1x128) broadcasts_S1x128_S1024x128)

/-- The rotation of each half's lanes. -/
def rotated (y : FVec F S1024x128 .f32) (cs sn : Vec F S1024x128 .f32) : FVec F S1024x128 .f32 :=
  addf (mulf y (shapeCast S1024x128 cs shapeCasts_S1024x128_S1024x128))
    (mulf (select firstHalf (dynamicRotate 1 96#32 none y rotates_S1024x128_d1) (dynamicRotate 1 32#32 none y rotates_S1024x128_d1))
      (shapeCast S1024x128 sn shapeCasts_S1024x128_S1024x128))

def slab (a : FVec F S1024x128 .f32) (g : Vec F S1x128 .f32) (seg : Vec F S128x128 .bf16) (cs sn : Vec F S1024x128 .f32) :
    FVec F S1024x128 .f32 := rotated (normed a g seg) cs sn

/-- The scaled queries. -/
def scaled (y : FVec F S1024x128 .f32) : FVec F S1024x128 .bf16 :=
  truncf .bf16 (mulf y (broadcast S1024x128 (Named.named κ "scale" 0x3E38AA3B#32))) bitsLt_bf16_f32

/-- The low half (`u = 0`) or the high half in both halves' places. -/
def doubled (u : Fin 2) (y : FVec F S1024x128 .f32) : FVec F S1024x128 .bf16 :=
  truncf .bf16 (if u.val = 0 then select low y (dynamicRotate 1 64#32 none y rotates_S1024x128_d1)
    else select low (dynamicRotate 1 64#32 none y rotates_S1024x128_d1) y) bitsLt_bf16_f32

theorem slices_lanes : ∀ s : Fin 4, S1024x512.Slices ![0, 128 * s.val] S1024x128 := by decide

def lanes (s : Fin 4) (a : FVec F S1024x512 .f32) : FVec F S1024x128 .f32 :=
  extractStridedSlice S1024x128 ![0, 128 * s.val] a (slices_lanes s)

/-! The loads of a grid point, and its stores. -/

variable (c : Dev nD) (i : grid0.Coords)
variable (arg2 : Memref sig .tc .vmem S1024x1024 .f32) (harg2 : arg2.IsWhole)
variable (arg3 : Memref sig .tc .vmem S1x1024 .f32) (harg3 : arg3.IsWhole)
variable (arg4 : Memref sig .tc .vmem S1024x2944 .bf16) (harg4 : arg4.IsWhole)
variable (arg5 : Memref sig .tc .vmem S1024x128 .f32) (harg5 : arg5.IsWhole)
variable (arg6 : Memref sig .tc .vmem S1024x128 .f32) (harg6 : arg6.IsWhole)
variable (arg7 : Memref sig .tc .vmem S1x128 .f32) (harg7 : arg7.IsWhole)
variable (arg8 : Memref sig .tc .vmem S1x128 .f32) (harg8 : arg8.IsWhole)
variable (arg9 : Memref sig .tc .vmem S128x128 .bf16) (harg9 : arg9.IsWhole)
variable (arg10 : Memref sig .tc .vmem S1024x2944 .bf16) (harg10 : arg10.IsWhole)
variable (arg11 : Memref sig .tc .vmem S1024x128 .f32) (harg11 : arg11.IsWhole)
variable (arg12 : Memref sig .tc .vmem S1024x1024 .bf16) (harg12 : arg12.IsWhole)
variable (arg13 : Memref sig .tc .vmem S1024x512 .bf16) (harg13 : arg13.IsWhole)
variable (arg14 : Memref sig .tc .vmem S1024x512 .bf16) (harg14 : arg14.IsWhole)
variable (arg15 : Memref sig .tc .vmem S1024x1024 .bf16) (harg15 : arg15.IsWhole)
variable (x0 : Vec F S1024x1024 .f32) (x1 : Vec F S1x1024 .f32) (x2 : Vec F S1024x2944 .bf16) (x3 x4 : Vec F S1024x128 .f32)
variable (x5 x6 : Vec F S1x128 .f32) (x7 : Vec F S128x128 .bf16) (xs : Vec F S1024x1024 .bf16)

def ldX : Vec F S1024x1024 .f32 :=
  View.readAt (Elt F) arg2.view (Rect.unit (s := S1024x1024) ![0, 0] S1024x1024.size inb_S1024x1024_S1024x1024_0_0).toLoadRect (harg2.unread x0)
def ldGain : Vec F S1x1024 .f32 :=
  View.readAt (Elt F) arg3.view (Rect.unit (s := S1x1024) ![0, 0] S1x1024.size inb_S1x1024_S1x1024_0_0).toLoadRect (harg3.unread x1)
def ldH : Vec F S1024x1024 .bf16 :=
  View.readAt (Elt F) arg15.view (Rect.unit (s := S1024x1024) ![0, 0] S1024x1024.size inb_S1024x1024_S1024x1024_0_0).toLoadRect (harg15.unread xs)
def ldTab (x : Vec F S1024x128 .f32) : Vec F S1024x128 .f32 :=
  View.readAt (Elt F) arg5.view (Rect.unit (s := S1024x128) ![0, 0] S1024x128.size inb_S1024x128_S1024x128_0_0).toLoadRect (harg5.unread x)
def ldRow (x : Vec F S1x128 .f32) : Vec F S1x128 .f32 :=
  View.readAt (Elt F) arg7.view (Rect.unit (s := S1x128) ![0, 0] S1x128.size inb_S1x128_S1x128_0_0).toLoadRect (harg7.unread x)
def ldSeg : Vec F S128x128 .bf16 :=
  View.readAt (Elt F) arg9.view (Rect.unit (s := S128x128) ![0, 0] S128x128.size inb_S128x128_S128x128_0_0).toLoadRect (harg9.unread x7)

/-- The weight's columns from `o` on, `n` of them. -/
def ldW (n o : ℕ) (h : ∀ a : Fin S1024x2944.rank, (![0, o] : Fin 2 → ℕ) a + (![1024, n] : Fin 2 → ℕ) a ≤ S1024x2944.size a) :
    (⟨2, ![1024, n]⟩ : Shape).Idx → Elt F .bf16 :=
  View.readAt (Elt F) arg4.view (Rect.unit (s := S1024x2944) ![0, o] ![1024, n] h).toLoadRect (harg4.unread x2)

/-- The normalised rows as they are kept between grid points. -/
def kept : FVec F S1024x1024 .bf16 := k0_pay1 (ldX arg2 harg2 x0) (ldGain arg3 harg3 x1)

/-- The same read back at the grid point that stores them. -/
def keptBack : Vec F S1024x1024 .bf16 :=
  View.readCov (Val := Elt F) arg15.view
    [⟨Rect.unit (s := S1024x1024) ![0, 0] S1024x1024.size inb_S1024x1024_S1024x1024_0_0, kept arg2 harg2 arg3 harg3 x0 x1⟩]
    (Rect.unit (s := S1024x1024) ![0, 0] S1024x1024.size inb_S1024x1024_S1024x1024_0_0).toLoadRect

/-- The stores of the products at the first two grid points of a row block. -/
def productsAB (h : Vec F S1024x1024 .bf16) : List (View.Piece (Elt F) S1024x2944 .bf16) :=
  [⟨Rect.unit ![0, 2560] ![1024, 384] inb_S1024x2944_S1024x384_0_2560, truncf .bf16 (proj384 h (ldW arg4 harg4 x2 384 2560 inb_S1024x2944_S1024x384_0_2560)) bitsLt_bf16_f32⟩,
   ⟨Rect.unit ![0, 2048] ![1024, 512] inb_S1024x2944_S1024x512_0_2048, truncf .bf16 (proj512 h (ldW arg4 harg4 x2 512 2048 inb_S1024x2944_S1024x512_0_2048)) bitsLt_bf16_f32⟩,
   ⟨Rect.unit ![0, 1536] ![1024, 512] inb_S1024x2944_S1024x512_0_1536, truncf .bf16 (proj512 h (ldW arg4 harg4 x2 512 1536 inb_S1024x2944_S1024x512_0_1536)) bitsLt_bf16_f32⟩,
   ⟨Rect.unit ![0, 1024] ![1024, 512] inb_S1024x2944_S1024x512_0_1024, truncf .bf16 (proj512 h (ldW arg4 harg4 x2 512 1024 inb_S1024x2944_S1024x512_0_1024)) bitsLt_bf16_f32⟩,
   ⟨Rect.unit ![0, 512] ![1024, 512] inb_S1024x2944_S1024x512_0_512, truncf .bf16 (proj512 h (ldW arg4 harg4 x2 512 512 inb_S1024x2944_S1024x512_0_512)) bitsLt_bf16_f32⟩,
   ⟨Rect.unit ![0, 0] ![1024, 512] inb_S1024x2944_S1024x512_0_0, truncf .bf16 (proj512 h (ldW arg4 harg4 x2 512 0 inb_S1024x2944_S1024x512_0_0)) bitsLt_bf16_f32⟩]

/-- The stores of the products at the last. -/
def productsC (h : Vec F S1024x1024 .bf16) : List (View.Piece (Elt F) S1024x2944 .bf16) :=
  [⟨Rect.unit ![0, 2816] ![1024, 128] inb_S1024x2944_S1024x128_0_2816, truncf .bf16 (proj128 h (ldW arg4 harg4 x2 128 2816 inb_S1024x2944_S1024x128_0_2816)) bitsLt_bf16_f32⟩,
   ⟨Rect.unit ![0, 2304] ![1024, 512] inb_S1024x2944_S1024x512_0_2304, truncf .bf16 (proj512 h (ldW arg4 harg4 x2 512 2304 inb_S1024x2944_S1024x512_0_2304)) bitsLt_bf16_f32⟩,
   ⟨Rect.unit ![0, 1792] ![1024, 512] inb_S1024x2944_S1024x512_0_1792, truncf .bf16 (proj512 h (ldW arg4 harg4 x2 512 1792 inb_S1024x2944_S1024x512_0_1792)) bitsLt_bf16_f32⟩,
   ⟨Rect.unit ![0, 1280] ![1024, 512] inb_S1024x2944_S1024x512_0_1280, truncf .bf16 (proj512 h (ldW arg4 harg4 x2 512 1280 inb_S1024x2944_S1024x512_0_1280)) bitsLt_bf16_f32⟩,
   ⟨Rect.unit ![0, 1024] ![1024, 256] inb_S1024x2944_S1024x256_0_1024, truncf .bf16 (proj256 h (ldW arg4 harg4 x2 256 1024 inb_S1024x2944_S1024x256_0_1024)) bitsLt_bf16_f32⟩,
   ⟨Rect.unit ![0, 512] ![1024, 512] inb_S1024x2944_S1024x512_0_512, truncf .bf16 (proj512 h (ldW arg4 harg4 x2 512 512 inb_S1024x2944_S1024x512_0_512)) bitsLt_bf16_f32⟩,
   ⟨Rect.unit ![0, 0] ![1024, 512] inb_S1024x2944_S1024x512_0_0, truncf .bf16 (proj512 h (ldW arg4 harg4 x2 512 0 inb_S1024x2944_S1024x512_0_0)) bitsLt_bf16_f32⟩]

theorem products_A (hc0 : cond0_0 i) (hc1 : cond0_1 i) (hc2 : ¬cond0_2 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7).1
      = productsAB arg4 harg4 x2 (keptBack arg2 harg2 arg3 harg3 arg15 x0 x1) := by
  unfold kernelRun0_A
  sl_kernel_rfl

theorem kept_A (hc0 : cond0_0 i) (hc1 : cond0_1 i) (hc2 : ¬cond0_2 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7).2.2.2.2.2.1
      = [⟨Rect.unit (s := S1024x1024) ![0, 0] S1024x1024.size inb_S1024x1024_S1024x1024_0_0, kept arg2 harg2 arg3 harg3 x0 x1⟩] := by
  unfold kernelRun0_A
  sl_kernel_rfl

theorem products_B (hc0 : ¬cond0_0 i) (hc1 : cond0_1 i) (hc2 : ¬cond0_2 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs).1
      = productsAB arg4 harg4 x2 (ldH arg15 harg15 xs) := by
  unfold kernelRun0_B
  sl_kernel_rfl

theorem products_C (hc0 : ¬cond0_0 i) (hc1 : ¬cond0_1 i) (hc2 : cond0_2 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs).1
      = productsC arg4 harg4 x2 (ldH arg15 harg15 xs) := by
  unfold kernelRun0_C
  sl_kernel_rfl

theorem steps_C (hc0 : ¬cond0_0 i) (hc1 : ¬cond0_1 i) (hc2 : cond0_2 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs).2.1
      = [⟨Rect.unit (s := S1024x128) ![0, 0] S1024x128.size inb_S1024x128_S1024x128_0_0, proj128 (ldH arg15 harg15 xs) (ldW arg4 harg4 x2 128 2816 inb_S1024x2944_S1024x128_0_2816)⟩] := by
  unfold kernelRun0_C
  sl_kernel_rfl

/-- The query stores run over eight times 128 lanes; the list has the last one first. -/
def offQ (n : Fin 8) : Fin 2 → ℕ := ![0, 128 * (7 - n.val)]
theorem inb_offQ : ∀ (n : Fin 8) (a : Fin S1024x1024.rank), offQ n a + S1024x128.size a ≤ S1024x1024.size a := by decide

theorem inb_colsQ : ∀ (n : Fin 8) (a : Fin S1024x2944.rank), (![0, 1280 + 512 * ((7 - n.val) / 4)] : Fin 2 → ℕ) a + (![1024, 512] : Fin 2 → ℕ) a ≤ S1024x2944.size a := by decide

def tileQ (n : Fin 8) : FVec F S1024x128 .bf16 :=
  scaled (slab (lanes ⟨(7 - n.val) % 4, by omega⟩ (proj512 (ldH arg15 harg15 xs) (ldW arg4 harg4 x2 512 (1280 + 512 * ((7 - n.val) / 4)) (inb_colsQ n))))
    (ldRow arg7 harg7 x5) (ldSeg arg9 harg9 x7) (ldTab arg5 harg5 x3) (ldTab arg6 harg6 x4))

theorem stores_Q (hc0 : ¬cond0_0 i) (hc1 : ¬cond0_1 i) (hc2 : cond0_2 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs).2.2.1
      = List.ofFn fun n : Fin 8 => (⟨Rect.unit (s := S1024x1024) (offQ n) S1024x128.size (inb_offQ n),
          tileQ arg4 harg4 arg5 harg5 arg6 harg6 arg7 harg7 arg9 harg9 arg15 harg15 x2 x3 x4 x5 x7 xs n⟩ : View.Piece (Elt F) S1024x1024 .bf16) := by
  unfold kernelRun0_C
  sl_kernel_rfl

/-- The key and the value stores run over two times 128 lanes, each half on its own. -/
def offK (n : Fin 4) : Fin 2 → ℕ := ![0, 128 * (3 - n.val)]
theorem inb_offK : ∀ (n : Fin 4) (a : Fin S1024x512.rank), offK n a + S1024x128.size a ≤ S1024x512.size a := by decide

def tileK (n : Fin 4) : FVec F S1024x128 .bf16 :=
  doubled ⟨(3 - n.val) % 2, by omega⟩ (slab (lanes ⟨(3 - n.val) / 2, by omega⟩ (proj512 (ldH arg15 harg15 xs) (ldW arg4 harg4 x2 512 2304 inb_S1024x2944_S1024x512_0_2304)))
    (ldRow arg8 harg8 x6) (ldSeg arg9 harg9 x7) (ldTab arg5 harg5 x3) (ldTab arg6 harg6 x4))

theorem stores_K (hc0 : ¬cond0_0 i) (hc1 : ¬cond0_1 i) (hc2 : cond0_2 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs).2.2.2.1
      = List.ofFn fun n : Fin 4 => (⟨Rect.unit (s := S1024x512) (offK n) S1024x128.size (inb_offK n),
          tileK arg4 harg4 arg5 harg5 arg6 harg6 arg8 harg8 arg9 harg9 arg15 harg15 x2 x3 x4 x6 x7 xs n⟩ : View.Piece (Elt F) S1024x512 .bf16) := by
  unfold kernelRun0_C
  sl_kernel_rfl

def tileV (n : Fin 4) : FVec F S1024x128 .bf16 :=
  doubled ⟨(3 - n.val) % 2, by omega⟩ (lanes ⟨2 + (3 - n.val) / 2, by omega⟩ (proj512 (ldH arg15 harg15 xs) (ldW arg4 harg4 x2 512 2304 inb_S1024x2944_S1024x512_0_2304)))

theorem stores_V (hc0 : ¬cond0_0 i) (hc1 : ¬cond0_1 i) (hc2 : cond0_2 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 xs).2.2.2.2.1
      = List.ofFn fun n : Fin 4 => (⟨Rect.unit (s := S1024x512) (offK n) S1024x128.size (inb_offK n),
          tileV arg4 harg4 arg15 harg15 x2 xs n⟩ : View.Piece (Elt F) S1024x512 .bf16) := by
  unfold kernelRun0_C
  sl_kernel_rfl

end Cert.Proof.InTile

end
-- ==== Proof.InVal.lean ====
/- The in-projection kernel's tiles over extended reals, element by element. -/
module

public import proofs.«01_k».proof.Proof.InTile
public import proofs.«01_k».proof.Proof.InMath
public import Idealize.ShloMosaic.Lib.KernelVsHost

@[expose] public section

noncomputable section

namespace Cert.Proof.InTile

open Cert.InKernelIdeal Cert.InKernelIdeal.Gen Idealize.ShloMosaic Idealize.SL.Sem Cert.Proof.InMath

/-! Comparisons of small words. -/

theorem small (a : ℕ) (ha : a < 4096) : (BitVec.ofNat 32 a).toInt = a := by
  rw [BitVec.toInt_ofNat']; simp only [Int.bmod]; omega

theorem slt_small (a b : ℕ) (ha : a < 4096) (hb : b < 4096) :
    IntOp.cmpi .slt (BitVec.ofNat 32 a) (BitVec.ofNat 32 b) = if a < b then 1#1 else 0#1 := by
  unfold IntOp.cmpi
  simp only [BitVec.slt, small a ha, small b hb, Nat.cast_lt]
  split_ifs with h <;> simp [h]

theorem low_apply (r : Fin 1024) (l : Fin 128) : low (ix2 r l) = if l.val < 64 then 1#1 else 0#1 := by
  unfold low
  unfold_payloads
  pointwise
  exact slt_small l.val 64 (by omega) (by omega)

theorem firstHalf_apply (r : Fin 1024) (l : Fin 128) : firstHalf (ix2 r l) = if l.val % 64 < 32 then 1#1 else 0#1 := by
  unfold firstHalf
  unfold_payloads
  pointwise
  revert l
  decide +kernel

theorem proj512_apply (h : Vec Ideal S1024x1024 .bf16) (w : Vec Ideal S1024x512 .bf16) (r : Fin 1024) (l : Fin 512) :
    proj512 h w (ix2 r l) = ∑ k : Fin 1024, (h (ix2 r k) : EReal) * w (ix2 k l) := by
  unfold proj512
  pointwise
theorem proj384_apply (h : Vec Ideal S1024x1024 .bf16) (w : Vec Ideal S1024x384 .bf16) (r : Fin 1024) (l : Fin 384) :
    proj384 h w (ix2 r l) = ∑ k : Fin 1024, (h (ix2 r k) : EReal) * w (ix2 k l) := by
  unfold proj384
  pointwise
theorem proj256_apply (h : Vec Ideal S1024x1024 .bf16) (w : Vec Ideal S1024x256 .bf16) (r : Fin 1024) (l : Fin 256) :
    proj256 h w (ix2 r l) = ∑ k : Fin 1024, (h (ix2 r k) : EReal) * w (ix2 k l) := by
  unfold proj256
  pointwise
theorem proj128_apply (h : Vec Ideal S1024x1024 .bf16) (w : Vec Ideal S1024x128 .bf16) (r : Fin 1024) (l : Fin 128) :
    proj128 h w (ix2 r l) = ∑ k : Fin 1024, (h (ix2 r k) : EReal) * w (ix2 k l) := by
  unfold proj128
  pointwise

theorem kept_apply (x : Vec Ideal S1024x1024 .f32) (g : Vec Ideal S1x1024 .f32) (r k : Fin 1024) :
    k0_pay1 (F := Ideal) x g (ix2 r k)
      = unit (Ideal.ofBits .f32 0x44800000#32) (fun j : Fin 1024 => (x (ix2 r j) : EReal)) (fun j => (g (ix2 0 j) : EReal)) k := by
  unfold unit eps
  unfold_payloads
  pointwise

theorem rotate_apply (a b : ℕ) (hb : b < 128) (hab : a + b = 128) (y : FVec Ideal S1024x128 .f32) (r : Fin 1024) (l : Fin 128) :
    dynamicRotate 1 (BitVec.ofNat 32 b) none y rotates_S1024x128_d1 (ix2 r l) = y (ix2 r (⟨(l.val + a) % 128, by omega⟩ : Fin 128)) := by
  refine dynamicRotate_apply _ _ _ _ _ _ fun c => ?_
  have hn : (BitVec.ofNat 32 b).toNat = b := by rw [BitVec.toNat_ofNat]; omega
  rw [hn]
  fin_cases c
  · simp
  · show (l.val + a) % 128 = (l.val + 128 - b % 128) % 128
    omega

theorem select_ite {α : Type} (p : Prop) [Decidable p] (x y : α) :
    Scalar.select (if p then 1#1 else 0#1) x y = if p then x else y := by
  split <;> rfl

theorem rotated_apply (y : FVec Ideal S1024x128 .f32) (cs sn : Vec Ideal S1024x128 .f32) (r : Fin 1024) (l : Fin 128) :
    rotated y cs sn (ix2 r l) = (y (ix2 r l) : EReal) * cs (ix2 r l)
      + (if l.val % 64 < 32 then y (ix2 r (⟨(l.val + 32) % 128, by omega⟩ : Fin 128))
          else y (ix2 r (⟨(l.val + 96) % 128, by omega⟩ : Fin 128))) * sn (ix2 r l) := by
  have h1 := rotate_apply 32 96 (by omega) (by omega) y r l
  have h2 := rotate_apply 96 32 (by omega) (by omega) y r l
  have h3 := firstHalf_apply r l
  unfold rotated
  generalize firstHalf = m at h3 ⊢
  generalize dynamicRotate 1 (BitVec.ofNat 32 96) none y rotates_S1024x128_d1 = a at h1 ⊢
  generalize dynamicRotate 1 (BitVec.ofNat 32 32) none y rotates_S1024x128_d1 = b at h2 ⊢
  pointwise
  rw [h1, h2, h3, select_ite]

theorem normed_apply (a : FVec Ideal S1024x128 .f32) (g : Vec Ideal S1x128 .f32) (seg : Vec Ideal S128x128 .bf16)
    (r : Fin 1024) (l : Fin 128) :
    normed a g seg (ix2 r l) = (a (ix2 r l) : EReal) * Ideal.rsqrt ((∑ n : Fin 128, (a (ix2 r n) * a (ix2 r n) : EReal) * seg (ix2 n l))
      * Ideal.ofBits .f32 0x3C800000#32 + eps) * g (ix2 0 l) := by
  unfold normed eps
  pointwise

theorem scale_val : (Named.named κ "scale" 0x3E38AA3B#32 : Ideal .f32) = (((Real.log 256)⁻¹ : ℝ) : EReal) :=
  IdealRules.named_const.ideal_named_scalar _ _ _ _ rfl

theorem scaled_apply (y : FVec Ideal S1024x128 .f32) (r : Fin 1024) (l : Fin 128) :
    scaled y (ix2 r l) = (y (ix2 r l) : EReal) * (((Real.log 256)⁻¹ : ℝ) : EReal) := by
  rw [← scale_val]
  unfold scaled
  pointwise

theorem doubled_apply (u : Fin 2) (y : FVec Ideal S1024x128 .f32) (r : Fin 1024) (l : Fin 128) :
    doubled u y (ix2 r l) = y (ix2 r (⟨64 * u.val + l.val % 64, by omega⟩ : Fin 128)) := by
  have h1 := rotate_apply 64 64 (by omega) (by omega) y r l
  have h3 := low_apply r l
  unfold doubled
  generalize low = m at h3 ⊢
  generalize dynamicRotate 1 (BitVec.ofNat 32 64) none y rotates_S1024x128_d1 = a at h1 ⊢
  fin_cases u <;> pointwise <;> rw [h1, h3, select_ite] <;> split <;> congr 2 <;> apply Fin.ext <;> simp <;> omega

theorem lanes_apply (s : Fin 4) (a : FVec Ideal S1024x512 .f32) (r : Fin 1024) (l : Fin 128) :
    lanes s a (ix2 r l) = a (ix2 r (⟨128 * s.val + l.val, by omega⟩ : Fin 512)) := by
  unfold lanes
  pointwise

/-! A half's lanes, normalised and rotated. -/

/-- The sum of one half's squares, by the table that is one where two lanes are of one half. -/
theorem half_sum (f : Fin 128 → EReal) (l : Fin 128) :
    (∑ n : Fin 128, f n * (if n.val / 64 = l.val / 64 then (1 : EReal) else 0))
      = ∑ d : Fin 64, f ⟨64 * (l.val / 64) + d.val, by omega⟩ := by
  rw [Fin.sum_univ_add (a := 64) (b := 64) (fun n : Fin (64 + 64) => f n * (if n.val / 64 = l.val / 64 then (1 : EReal) else 0))]
  by_cases h : l.val < 64
  · rw [Finset.sum_eq_zero (s := Finset.univ) (f := fun i : Fin 64 => f (Fin.natAdd 64 i) * _), add_zero]
    · refine Finset.sum_congr rfl fun d _ => ?_
      rw [if_pos (by show d.val / 64 = _; omega), mul_one]
      exact congrArg f (Fin.ext (by show d.val = 64 * (l.val / 64) + d.val; omega))
    · intro d _
      rw [if_neg (by show ¬ (64 + d.val) / 64 = _; omega), mul_zero]
  · rw [Finset.sum_eq_zero (s := Finset.univ) (f := fun i : Fin 64 => f (Fin.castAdd 64 i) * _), zero_add]
    · refine Finset.sum_congr rfl fun d _ => ?_
      rw [if_pos (by show (64 + d.val) / 64 = _; omega), mul_one]
      exact congrArg f (Fin.ext (by show 64 + d.val = 64 * (l.val / 64) + d.val; omega))
    · intro d _
      rw [if_neg (by show ¬ d.val / 64 = _; omega), mul_zero]

theorem div_64 (x : EReal) : x * Ideal.ofBits .f32 0x3C800000#32 = Ideal.div x (Ideal.ofBits .f32 0x42800000#32) := by
  have h1 : Ideal.ofBits .f32 0x42800000#32 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  rw [h1, h2, Ideal.div_coe (by norm_num)]

/-- What is asked of the tables: the gain twice, the cosines four times, and the sines with their sign. -/
structure Tables (p : Fin 1024 → Fin 2048) (hg : HeadGains) (c s : Angles) (g : Vec Ideal S1x128 .f32)
    (seg : Vec Ideal S128x128 .bf16) (cs sn : Vec Ideal S1024x128 .f32) : Prop where
  gain : ∀ l : Fin 128, g (ix2 0 l) = hg (ix1 (⟨l.val % 64, by omega⟩ : Fin 64))
  seg : ∀ n l : Fin 128, seg (ix2 n l) = if n.val / 64 = l.val / 64 then (1 : EReal) else 0
  cos : ∀ (r : Fin 1024) (l : Fin 128), cs (ix2 r l) = c (ix2 (p r) (⟨l.val % 32, by omega⟩ : Fin 32))
  sin : ∀ (r : Fin 1024) (l : Fin 128), sn (ix2 r l) = if l.val % 64 < 32 then -(s (ix2 (p r) (⟨l.val % 32, by omega⟩ : Fin 32)))
    else s (ix2 (p r) (⟨l.val % 32, by omega⟩ : Fin 32))

theorem normed_half {p : Fin 1024 → Fin 2048} {hg : HeadGains} {c s : Angles} {g : Vec Ideal S1x128 .f32}
    {seg : Vec Ideal S128x128 .bf16} {cs sn : Vec Ideal S1024x128 .f32} (T : Tables p hg c s g seg cs sn)
    (a : FVec Ideal S1024x128 .f32) (r : Fin 1024) (u : Fin 2) (d : Fin 64) (l : Fin 128) (hl : l.val = 64 * u.val + d.val) :
    normed a g seg (ix2 r l) = unit (Ideal.ofBits .f32 0x42800000#32)
      (fun d : Fin 64 => (a (ix2 r (⟨64 * u.val + d.val, by omega⟩ : Fin 128)) : EReal)) (fun d => hg (ix1 d)) d := by
  have hu : l.val / 64 = u.val := by omega
  have hd : (⟨l.val % 64, by omega⟩ : Fin 64) = d := Fin.ext (by show l.val % 64 = _; omega)
  have hl' : (⟨64 * u.val + d.val, by omega⟩ : Fin 128) = l := Fin.ext hl.symm
  rw [normed_apply, T.gain, Finset.sum_congr rfl fun n _ => by rw [T.seg n l],
    half_sum (fun n => (a (ix2 r n) * a (ix2 r n) : EReal)) l, div_64, hd]
  unfold unit
  simp only [hu, hl']

theorem slab_half {p : Fin 1024 → Fin 2048} {hg : HeadGains} {c s : Angles} {g : Vec Ideal S1x128 .f32}
    {seg : Vec Ideal S128x128 .bf16} {cs sn : Vec Ideal S1024x128 .f32} (T : Tables p hg c s g seg cs sn)
    (a : FVec Ideal S1024x128 .f32) (f : Fin 8768 → EReal) (o : ℕ) (ho : o + 64 ≤ 8768) (r : Fin 1024) (u : Fin 2)
    (ha : ∀ d : Fin 64, a (ix2 r (⟨64 * u.val + d.val, by omega⟩ : Fin 128)) = f ⟨o + d.val, by omega⟩)
    (d : Fin 64) (l : Fin 128) (hl : l.val = 64 * u.val + d.val) :
    slab a g seg cs sn (ix2 r l) = head f o ho hg c s (p r) d := by
  have hn := fun d l hl => normed_half T a r u d l hl
  simp only [ha] at hn
  unfold slab head rope
  rw [rotated_apply, hn d l hl, T.cos, T.sin]
  by_cases h : d.val < 32
  · have e : (⟨l.val % 32, by omega⟩ : Fin 32) = ⟨d.val, h⟩ := Fin.ext (by show l.val % 32 = d.val; omega)
    rw [if_pos (by omega), if_pos (by omega), dif_pos h,
      hn ⟨d.val + 32, by omega⟩ _ (by show (l.val + 32) % 128 = 64 * u.val + (d.val + 32); omega), e, mul_neg, sub_eq_add_neg]
  · have e : (⟨l.val % 32, by omega⟩ : Fin 32) = ⟨d.val - 32, by omega⟩ := Fin.ext (by show l.val % 32 = d.val - 32; omega)
    rw [if_neg (by omega), if_neg (by omega), dif_neg h,
      hn ⟨d.val - 32, by omega⟩ _ (by show (l.val + 96) % 128 = 64 * u.val + (d.val - 32); omega), e]

end Cert.Proof.InTile

end
-- ==== Proof.InLit.lean ====
/- The table of ones and zeros that the host hands to the in-projection kernel, place by place: one where two lanes are of
   one half. -/
module

public import proofs.«01_k».proof.Proof.Gen.InKernelIdeal

@[expose] public section

noncomputable section

namespace Cert.Proof.InLit

open Cert.InKernelIdeal Cert.InKernelIdeal.Gen Idealize.ShloMosaic

theorem lit : ∀ a b : Fin 128, lit0 ⟨128 * a.val + b.val, by show _ < 16384; omega⟩ = if a.val / 64 = b.val / 64 then 0x3F80#16 else 0#16 := by
  decide +kernel

end Cert.Proof.InLit

end
-- ==== Proof.InHost.lean ====
/- What the host hands to the in-projection kernel, and what each grid point reads of it. -/
module

public import proofs.«01_k».proof.Proof.InVal
public import proofs.«01_k».proof.Proof.InLit
public import proofs.«01_k».proof.Proof.Gen.InKernelIdeal.Value
public import Idealize.ShloMosaic.Lib.Claim
public import Idealize.ShloMosaic.Lib.StableHlo.RunRead
public import Idealize.ShloMosaic.Lib.Pipeline.ValueKit

@[expose] public section

set_option maxRecDepth 16384

noncomputable section

namespace Cert.Proof.InHost

open Cert.InKernelIdeal Cert.InKernelIdeal.Gen Idealize.ShloMosaic Idealize.ShloMosaic.TcCoe Idealize.SL.Sem Cert.Proof.InMath Cert.Proof.InTile

variable (m : (ℓ : Loc nD τ sig) → Buf (Elt Ideal) ℓ) (c : Dev nD)

/-- The arguments as plain arrays. -/
def argX : Xs := m (c.tc.loc main_arg0)
def argG : Gains := m (c.tc.loc main_arg1)
def argW : Ws := m (c.tc.loc main_arg2)
def argQ : HeadGains := m (c.tc.loc main_arg3)
def argK : HeadGains := m (c.tc.loc main_arg4)
def argC : Angles := m (c.tc.loc main_arg5)
def argS : Angles := m (c.tc.loc main_arg6)

/-! The host's terms. -/

/-- The weight's columns in the order of the result. -/
def ordered (w : FVec Ideal S1024x8768 .f32) : FVec Ideal S1024x8832 .bf16 :=
  concatenate S1024x8832 1 [⟨S1024x2048, extractStridedSlice S1024x2048 ![0, 1536] (truncf .bf16 w bitsLt_bf16_f32) slices_S1024x8768_S1024x2048_0_1536⟩,
    ⟨S1024x2048, extractStridedSlice S1024x2048 ![0, 6720] (truncf .bf16 w bitsLt_bf16_f32) slices_S1024x8768_S1024x2048_0_6720⟩,
    ⟨S1024x3072, extractStridedSlice S1024x3072 ![0, 3584] (truncf .bf16 w bitsLt_bf16_f32) slices_S1024x8768_S1024x3072_0_3584⟩,
    ⟨S1024x1024, extractStridedSlice S1024x1024 ![0, 0] (truncf .bf16 w bitsLt_bf16_f32) slices_S1024x8768_S1024x1024_0_0⟩,
    ⟨S1024x256, extractStridedSlice S1024x256 ![0, 1024] (truncf .bf16 w bitsLt_bf16_f32) slices_S1024x8768_S1024x256_0_1024⟩,
    ⟨S1024x256, extractStridedSlice S1024x256 ![0, 1280] (truncf .bf16 w bitsLt_bf16_f32) slices_S1024x8768_S1024x256_0_1280⟩,
    ⟨S1024x64, extractStridedSlice S1024x64 ![0, 6656] (truncf .bf16 w bitsLt_bf16_f32) slices_S1024x8768_S1024x64_0_6656⟩,
    ⟨S1024x64, broadcastInDim S1024x64 ![] bcast_S_S1024x64 (constant S_ .bf16 0x0000#16)⟩]
    concatenates_S1024x2048_S1024x2048_S1024x3072_S1024x1024_S1024x256_S1024x256_S1024x64_S1024x64_S1024x8832_d1

theorem ordered_apply (w : FVec Ideal S1024x8768 .f32) (k : Fin 1024) (n : Fin 8832) :
    ordered w (ix2 k n) = cols (fun j => w (ix2 k j)) n := by
  have e : ∀ i j : Fin 8768, i.val = j.val → w (ix2 k i) = w (ix2 k j) := fun i j h => by rw [Fin.ext h]
  generalize hR : cols (fun j => w (ix2 k j)) n = R
  unfold ordered
  pointwise
  subst hR
  unfold cols
  by_cases h0 : n.val < 2048
  · exact (dif_pos h0).trans ((e _ _ (by dsimp only; omega)).trans (if_pos (by omega)).symm)
  refine (dif_neg h0).trans (Eq.trans ?_ (if_neg (by omega)).symm)
  by_cases h1 : n.val - 2048 < 2048
  · exact (dif_pos h1).trans ((e _ _ (by dsimp only; omega)).trans (if_pos (by omega)).symm)
  refine (dif_neg h1).trans (Eq.trans ?_ (if_neg (by omega)).symm)
  by_cases h3 : n.val - 2048 - 2048 < 3072
  · exact (dif_pos h3).trans ((e _ _ (by dsimp only; omega)).trans (if_pos (by omega)).symm)
  refine (dif_neg h3).trans (Eq.trans ?_ (if_neg (by omega)).symm)
  by_cases h4 : n.val - 2048 - 2048 - 3072 < 1024
  · exact (dif_pos h4).trans ((e _ _ (by dsimp only; omega)).trans (if_pos (by omega)).symm)
  refine (dif_neg h4).trans ?_
  by_cases h5 : n.val - 2048 - 2048 - 3072 - 1024 < 256
  · exact (dif_pos h5).trans ((e _ _ (by dsimp only; omega)).trans (if_pos (by omega)).symm)
  refine (dif_neg h5).trans ?_
  by_cases h6 : n.val - 2048 - 2048 - 3072 - 1024 - 256 < 256
  · exact (dif_pos h6).trans ((e _ _ (by dsimp only; omega)).trans (if_pos (by omega)).symm)
  refine (dif_neg h6).trans (Eq.trans ?_ (if_neg (by omega)).symm)
  by_cases h7 : n.val - 2048 - 2048 - 3072 - 1024 - 256 - 256 < 64
  · exact (dif_pos h7).trans ((e _ _ (by dsimp only; omega)).trans (if_pos (by omega)).symm)
  exact (dif_neg h7).trans (if_neg (by omega)).symm

/-- Four tables side by side, the first and the third one the same. -/
def four (a b : FVec Ideal S2048x32 .f32) : FVec Ideal S2048x128 .f32 :=
  concatenate S2048x128 1 [⟨S2048x32, a⟩, ⟨S2048x32, b⟩, ⟨S2048x32, a⟩, ⟨S2048x32, b⟩]
    concatenates_S2048x32_S2048x32_S2048x32_S2048x32_S2048x128_d1

theorem four_apply (a b : FVec Ideal S2048x32 .f32) (p : Fin 2048) (l : Fin 128) :
    four a b (ix2 p l) = if l.val % 64 < 32 then a (ix2 p (⟨l.val % 32, by omega⟩ : Fin 32)) else b (ix2 p (⟨l.val % 32, by omega⟩ : Fin 32)) := by
  have e : ∀ (x : FVec Ideal S2048x32 .f32) (i j : Fin 32), i.val = j.val → x (ix2 p i) = x (ix2 p j) := fun x i j h => by rw [Fin.ext h]
  unfold four
  pointwise
  by_cases h0 : l.val < 32
  · exact (dif_pos h0).trans ((e _ _ _ (by dsimp only; omega)).trans (if_pos (by omega)).symm)
  refine (dif_neg h0).trans ?_
  by_cases h1 : l.val - 32 < 32
  · exact (dif_pos h1).trans ((e _ _ _ (by dsimp only; omega)).trans (if_neg (by omega)).symm)
  refine (dif_neg h1).trans ?_
  by_cases h2 : l.val - 32 - 32 < 32
  · exact (dif_pos h2).trans ((e _ _ _ (by dsimp only; omega)).trans (if_pos (by omega)).symm)
  exact (dif_neg h2).trans ((e _ _ _ (by dsimp only; omega)).trans (if_neg (by omega)).symm)

theorem flat_apply (x : FVec Ideal S16x2048x1024 .f32) (r : Fin 32768) (k : Fin 1024) :
    shapeCast S32768x1024 x shapeCasts_S16x2048x1024_S32768x1024 (ix2 r k) = x (ix3 (bat r) (pos r) k) := by
  pointwise
  rfl

theorem gain_apply (g : FVec Ideal S1024 .f32) (k : Fin 1024) :
    shapeCast S1x1024 g shapeCasts_S1024_S1x1024 (ix2 0 k) = g (ix1 k) := by
  pointwise

theorem headGain_apply (g : FVec Ideal S64 .f32) (l : Fin 128) :
    shapeCast S1x128 (shapeCast S128 (broadcastInDim S2x64 ![0, 1] bcast_S1x64_S2x64_0_1 (shapeCast S1x64 g shapeCasts_S64_S1x64))
      shapeCasts_S2x64_S128) shapeCasts_S128_S1x128 (ix2 0 l) = g (ix1 (⟨l.val % 64, by omega⟩ : Fin 64)) := by
  pointwise

theorem one_bf16 : Ideal.ofBits .bf16 0x3F80#16 = (1 : EReal) := by
  have h : Ideal.ofBits .bf16 0x3F80#16 = ((1 : ℝ) : EReal) := by
    simp [Ideal.ofBits, Ideal.ieee, -EReal.coe_mul]; norm_num
  rw [h, EReal.coe_one]
theorem zero_bf16 : Ideal.ofBits .bf16 0#16 = (0 : EReal) := by
  simp [Ideal.ofBits, Ideal.ieee, -EReal.coe_mul]

theorem halves_apply (n l : Fin 128) :
    (fun i => FloatOps.ofBits .bf16 (lit0 (S128x128.rowMajor i)) : FVec Ideal S128x128 .bf16) (ix2 n l)
      = if n.val / 64 = l.val / 64 then (1 : EReal) else 0 := by
  have e : S128x128.rowMajor (ix2 n l) = ⟨128 * n.val + l.val, by show _ < 16384; omega⟩ := by
    apply Fin.ext
    rw [Shape.rowMajor_val_two]
    show n.val * 128 + l.val = 128 * n.val + l.val
    omega
  show Ideal.ofBits .bf16 (lit0 (S128x128.rowMajor (ix2 n l))) = _
  rw [e, InLit.lit n l]
  split
  · exact one_bf16
  · exact zero_bf16

/-! The arrays the kernel is called with. -/

def hostX : Vec Ideal S32768x1024 .f32 := V m c main_v0
def hostG : Vec Ideal S1x1024 .f32 := V m c main_v15
def hostW : Vec Ideal S1024x8832 .bf16 := V m c main_v10
def hostC : Vec Ideal S2048x128 .f32 := V m c main_v11
def hostS : Vec Ideal S2048x128 .f32 := V m c main_v14
def hostQ : Vec Ideal S1x128 .f32 := V m c main_v19
def hostK : Vec Ideal S1x128 .f32 := V m c main_v23
def hostH : Vec Ideal S128x128 .bf16 := V m c main_cst

theorem hostX_apply (r : Fin 32768) (k : Fin 1024) : hostX m c (ix2 r k) = argX m c (ix3 (bat r) (pos r) k) := by
  unfold hostX
  entry_read
  exact flat_apply _ r k

theorem hostG_apply (k : Fin 1024) : hostG m c (ix2 0 k) = argG m c (ix1 k) := by
  unfold hostG
  entry_read
  exact gain_apply _ k

theorem hostW_apply (k : Fin 1024) (n : Fin 8832) : hostW m c (ix2 k n) = cols (fun j => argW m c (ix2 k j)) n := by
  unfold hostW
  after_reads_simp
  exact ordered_apply _ k n

theorem hostC_apply (p : Fin 2048) (l : Fin 128) : hostC m c (ix2 p l) = argC m c (ix2 p (⟨l.val % 32, by omega⟩ : Fin 32)) := by
  unfold hostC
  entry_read
  exact (four_apply _ _ p l).trans (ite_self _)

theorem hostS_apply (p : Fin 2048) (l : Fin 128) :
    hostS m c (ix2 p l) = if l.val % 64 < 32 then -(argS m c (ix2 p (⟨l.val % 32, by omega⟩ : Fin 32)))
      else argS m c (ix2 p (⟨l.val % 32, by omega⟩ : Fin 32)) := by
  unfold hostS
  after_reads_simp
  exact four_apply _ _ p l

theorem hostQ_apply (l : Fin 128) : hostQ m c (ix2 0 l) = argQ m c (ix1 (⟨l.val % 64, by omega⟩ : Fin 64)) := by
  unfold hostQ
  entry_read
  exact headGain_apply _ l

theorem hostK_apply (l : Fin 128) : hostK m c (ix2 0 l) = argK m c (ix1 (⟨l.val % 64, by omega⟩ : Fin 64)) := by
  unfold hostK
  entry_read
  exact headGain_apply _ l

theorem hostH_apply (n l : Fin 128) : hostH m c (ix2 n l) = if n.val / 64 = l.val / 64 then (1 : EReal) else 0 := by
  unfold hostH
  entry_read
  exact halves_apply n l

end Cert.Proof.InHost

end
-- ==== Proof.InOut.lean ====
/- The in-projection kernel's result arrays: what each grid point holds, and what the stores that it makes leave. -/
module

public import proofs.«01_k».proof.Proof.InHost
public import Idealize.ShloMosaic.Lib.Pipeline.ValueKit.Held
public import Idealize.ShloMosaic.Lib.Pipeline.ReadBack

@[expose] public section

set_option maxRecDepth 16384

noncomputable section

namespace Cert.Proof.InOut

open Cert.InKernelIdeal Cert.InKernelIdeal.Gen Idealize.ShloMosaic Idealize.ShloMosaic.TcCoe Idealize.SL.Sem Cert.Proof.InMath Cert.Proof.InTile
  Cert.Proof.InHost

variable (m : (ℓ : Loc nD τ sig) → Buf (Elt Ideal) ℓ) (c : Dev nD)

/-! What each grid point reads. -/

theorem points (t : Fin cfg0.N) : t.val < 96 := lt_of_lt_of_eq t.isLt (by decide +kernel)

/-- A row of the array, of a block of 1024. -/
def rowAt (q : ℕ) (hq : q < 32) (r : Fin 1024) : Fin 32768 := ⟨1024 * q + r.val, by omega⟩

abbrev rowOf (t : Fin cfg0.N) (r : Fin 1024) : Fin 32768 := rowAt (t.val / 3) (by have := points t; omega) r

/-- A column of the array, of a block of 2944. -/
def colOf (t : Fin cfg0.N) (l : Fin 2944) : Fin 8832 := ⟨2944 * (t.val % 3) + l.val, by omega⟩

theorem idx0 : ∀ t : Fin cfg0.N, win0_0.index t 0 = t.val / 3 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = t.val % 3 := by decide +kernel
theorem idx3 : ∀ t : Fin cfg0.N, win0_3.index t 0 = t.val / 3 % 2 ∧ win0_3.index t 1 = 0 := by decide +kernel
theorem idx4 : ∀ t : Fin cfg0.N, win0_4.index t 0 = t.val / 3 % 2 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = t.val / 3 ∧ win0_8.index t 1 = t.val % 3 := by decide +kernel
theorem idx9 : ∀ t : Fin cfg0.N, win0_9.index t 0 = t.val / 3 ∧ win0_9.index t 1 = 0 := by decide +kernel
theorem idx10 : ∀ t : Fin cfg0.N, win0_10.index t 0 = t.val / 3 ∧ win0_10.index t 1 = 0 := by decide +kernel
theorem idx11 : ∀ t : Fin cfg0.N, win0_11.index t 0 = t.val / 3 ∧ win0_11.index t 1 = 0 := by decide +kernel
theorem idx12 : ∀ t : Fin cfg0.N, win0_12.index t 0 = t.val / 3 ∧ win0_12.index t 1 = 0 := by decide +kernel

theorem x_block (t : Fin cfg0.N) (r k : Fin 1024) :
    iblk m c 0 t (ix2 r k) = argX m c (ix3 (bat (rowOf t r)) (pos (rowOf t r)) k) := by
  obtain ⟨h0, h1⟩ := idx0 t
  have e : iblk m c 0 t (ix2 r k) = hostX m c (ix2 (rowOf t r) k) := by
    unfold hostX rowOf rowAt
    blk_ext [iblk, h0, h1]
  rw [e, hostX_apply]

theorem g_block (t : Fin cfg0.N) (k : Fin 1024) : iblk m c 1 t (ix2 0 k) = argG m c (ix1 k) := by
  obtain ⟨h0, h1⟩ := idx1 t
  have e : iblk m c 1 t (ix2 0 k) = hostG m c (ix2 0 k) := by
    unfold hostG
    blk_ext [iblk, h0, h1]
  rw [e, hostG_apply]

theorem w_block (t : Fin cfg0.N) (k : Fin 1024) (l : Fin 2944) :
    iblk m c 2 t (ix2 k l) = cols (fun j => argW m c (ix2 k j)) (colOf t l) := by
  obtain ⟨h0, h1⟩ := idx2 t
  have e : iblk m c 2 t (ix2 k l) = hostW m c (ix2 k (colOf t l)) := by
    unfold hostW colOf
    blk_ext [iblk, h0, h1]
  rw [e, hostW_apply]

theorem c_block (t : Fin cfg0.N) (r : Fin 1024) (l : Fin 128) :
    iblk m c 3 t (ix2 r l) = argC m c (ix2 (pos (rowOf t r)) (⟨l.val % 32, by omega⟩ : Fin 32)) := by
  obtain ⟨h0, h1⟩ := idx3 t
  have e : iblk m c 3 t (ix2 r l) = hostC m c (ix2 (pos (rowOf t r)) l) := by
    unfold hostC pos rowOf rowAt
    blk_ext [iblk, h0, h1]
  rw [e, hostC_apply]

theorem s_block (t : Fin cfg0.N) (r : Fin 1024) (l : Fin 128) :
    iblk m c 4 t (ix2 r l) = if l.val % 64 < 32 then -(argS m c (ix2 (pos (rowOf t r)) (⟨l.val % 32, by omega⟩ : Fin 32)))
      else argS m c (ix2 (pos (rowOf t r)) (⟨l.val % 32, by omega⟩ : Fin 32)) := by
  obtain ⟨h0, h1⟩ := idx4 t
  have e : iblk m c 4 t (ix2 r l) = hostS m c (ix2 (pos (rowOf t r)) l) := by
    unfold hostS pos rowOf rowAt
    blk_ext [iblk, h0, h1]
  rw [e, hostS_apply]

theorem q_block (t : Fin cfg0.N) (l : Fin 128) : iblk m c 5 t (ix2 0 l) = argQ m c (ix1 (⟨l.val % 64, by omega⟩ : Fin 64)) := by
  obtain ⟨h0, h1⟩ := idx5 t
  have e : iblk m c 5 t (ix2 0 l) = hostQ m c (ix2 0 l) := by
    unfold hostQ
    blk_ext [iblk, h0, h1]
  rw [e, hostQ_apply]

theorem k_block (t : Fin cfg0.N) (l : Fin 128) : iblk m c 6 t (ix2 0 l) = argK m c (ix1 (⟨l.val % 64, by omega⟩ : Fin 64)) := by
  obtain ⟨h0, h1⟩ := idx6 t
  have e : iblk m c 6 t (ix2 0 l) = hostK m c (ix2 0 l) := by
    unfold hostK
    blk_ext [iblk, h0, h1]
  rw [e, hostK_apply]

theorem h_block (t : Fin cfg0.N) (n l : Fin 128) : iblk m c 7 t (ix2 n l) = if n.val / 64 = l.val / 64 then (1 : EReal) else 0 := by
  obtain ⟨h0, h1⟩ := idx7 t
  have e : iblk m c 7 t (ix2 n l) = hostH m c (ix2 n l) := by
    unfold hostH
    blk_ext [iblk, h0, h1]
  rw [e, hostH_apply]

/-! The loads. -/

theorem ldX_apply (a : Memref sig .tc .vmem S1024x1024 .f32) (ha : a.IsWhole) (x : Vec Ideal S1024x1024 .f32) (r k : Fin 1024) :
    ldX a ha x (ix2 r k) = x (ix2 r k) := by
  unfold ldX
  rw [View.readAt_eq_ld, ha.read_unread]
  pointwise
theorem ldGain_apply (a : Memref sig .tc .vmem S1x1024 .f32) (ha : a.IsWhole) (x : Vec Ideal S1x1024 .f32) (k : Fin 1024) :
    ldGain a ha x (ix2 0 k) = x (ix2 0 k) := by
  unfold ldGain
  rw [View.readAt_eq_ld, ha.read_unread]
  pointwise
theorem ldH_apply (a : Memref sig .tc .vmem S1024x1024 .bf16) (ha : a.IsWhole) (x : Vec Ideal S1024x1024 .bf16) (r k : Fin 1024) :
    ldH a ha x (ix2 r k) = x (ix2 r k) := by
  unfold ldH
  rw [View.readAt_eq_ld, ha.read_unread]
  pointwise
theorem ldTab_apply (a : Memref sig .tc .vmem S1024x128 .f32) (ha : a.IsWhole) (x : Vec Ideal S1024x128 .f32) (r : Fin 1024) (l : Fin 128) :
    ldTab a ha x (ix2 r l) = x (ix2 r l) := by
  unfold ldTab
  rw [View.readAt_eq_ld, ha.read_unread]
  pointwise
theorem ldRow_apply (a : Memref sig .tc .vmem S1x128 .f32) (ha : a.IsWhole) (x : Vec Ideal S1x128 .f32) (l : Fin 128) :
    ldRow a ha x (ix2 0 l) = x (ix2 0 l) := by
  unfold ldRow
  rw [View.readAt_eq_ld, ha.read_unread]
  pointwise
theorem ldSeg_apply (a : Memref sig .tc .vmem S128x128 .bf16) (ha : a.IsWhole) (x : Vec Ideal S128x128 .bf16) (n l : Fin 128) :
    ldSeg a ha x (ix2 n l) = x (ix2 n l) := by
  unfold ldSeg
  rw [View.readAt_eq_ld, ha.read_unread]
  pointwise

theorem ldW_apply (a : Memref sig .tc .vmem S1024x2944 .bf16) (ha : a.IsWhole) (x : Vec Ideal S1024x2944 .bf16) (n o : ℕ)
    (h : ∀ a : Fin S1024x2944.rank, (![0, o] : Fin 2 → ℕ) a + (![1024, n] : Fin 2 → ℕ) a ≤ S1024x2944.size a) (k : Fin 1024) (l : Fin n) :
    ldW a ha x n o h (ix2 k l) = x (ix2 k (⟨o + l.val, by have : o + n ≤ 2944 := h 1; omega⟩ : Fin 2944)) := by
  unfold ldW
  rw [View.readAt_eq_ld, ha.read_unread]
  refine congrArg x (funext fun b => Fin.ext ?_)
  fin_cases b
  · show 0 + 1 * k.val = k.val
    omega
  · show o + 1 * l.val = o + l.val
    omega

/-! The kept rows. -/

/-- The rows of a block, normalised. -/
def Held (q : ℕ) (hq : q < 32) (h : Vec Ideal S1024x1024 .bf16) : Prop :=
  ∀ r k : Fin 1024, h (ix2 r k) = hid (argX m c) (argG m c) (bat (rowAt q hq r)) (pos (rowAt q hq r)) k

theorem held_kept (t : Fin cfg0.N) (q : ℕ) (hq : q < 32) (e : t.val / 3 = q) :
    Held m c q hq (kept (ms0_0 t) (hs0_0 t) (ms0_1 t) (hs0_1 t) (iblk m c 0 t) (iblk m c 1 t)) := by
  subst e
  intro r k
  unfold kept hid
  rw [kept_apply]
  simp only [ldX_apply, ldGain_apply, x_block, g_block]

theorem held_back (t : Fin cfg0.N) (q : ℕ) (hq : q < 32) (e : t.val / 3 = q) (a : Memref sig .tc .vmem S1024x1024 .bf16) :
    Held m c q hq (keptBack (ms0_0 t) (hs0_0 t) (ms0_1 t) (hs0_1 t) a (iblk m c 0 t) (iblk m c 1 t)) := by
  unfold keptBack
  rw [View.readCov_unit_lit _ _ _ (by decide)]
  exact held_kept m c t q hq e

theorem scratch (t : Fin cfg0.N) : Held m c (t.val / 3) (by have := points t; omega) (outsAt0 m c t.val t.isLt).2.2.2.2.2 := by
  have ht := points t
  rw [Pipeline.eq_of_write_hold (fun n h => (outsAt0 m c n h).2.2.2.2.2) 3
    (fun t => kept (ms0_0 t) (hs0_0 t) (ms0_1 t) (hs0_1 t) (iblk m c 0 t) (iblk m c 1 t)) (fun t h => ?_) (fun t h => ?_) t]
  · exact held_kept m c _ _ _ (by show 3 * (t.val / 3) / 3 = t.val / 3; omega)
  · show (outsAt0 m c t.val t.isLt).2.2.2.2.2 = _
    rw [outsAt0_A m c t h (by omega) (by omega)]
    dsimp only
    unfold sout0_A_0
    rw [View.read_writes_junk_eq_canon, kept_A]
    exact View.canon_cons_unit_lit _ _ _ (by decide)
  · show (outsAt0 m c t.val t.isLt).2.2.2.2.2 = (outsAt0 m c (t.val - 1) _).2.2.2.2.2
    by_cases h2 : t.val % 3 = 2
    · rw [outsAt0_C m c t h (by omega) h2]
      rfl
    · rw [outsAt0_B m c t h (by omega) h2]
      rfl

theorem held_ld (t : Fin cfg0.N) (h0 : ¬ t.val % 3 = 0) (hl : t.val - 1 < cfg0.N) (q : ℕ) (hq : q < 32) (e : t.val / 3 = q)
    (a : Memref sig .tc .vmem S1024x1024 .bf16) (ha : a.IsWhole) :
    Held m c q hq (ldH a ha (outsAt0 m c (t.val - 1) hl).2.2.2.2.2) := by
  have e' : (t.val - 1) / 3 = q := by omega
  intro r k
  rw [ldH_apply]
  subst e'
  exact scratch m c ⟨t.val - 1, hl⟩ r k

/-! The products. -/

theorem sum_cols (f : Fin 1024 → EReal) (w : Ws) (n : Fin 8832) :
    (∑ k, f k * cols (fun j => w (ix2 k j)) n) = cols (fun j => ∑ k, f k * w (ix2 k j)) n := by
  unfold cols
  split_ifs
  iterate 5 rfl
  simp only [mul_zero, Finset.sum_const_zero]

abbrev rowCols (r : Fin 32768) : Fin 8768 → EReal := row (argX m c) (argG m c) (argW m c) r

theorem chunk (t : Fin cfg0.N) (h : Vec Ideal S1024x1024 .bf16) (hh : Held m c (t.val / 3) (by have := points t; omega) h)
    (a : Memref sig .tc .vmem S1024x2944 .bf16) (ha : a.IsWhole) (n o : ℕ)
    (inb : ∀ a : Fin S1024x2944.rank, (![0, o] : Fin 2 → ℕ) a + (![1024, n] : Fin 2 → ℕ) a ≤ S1024x2944.size a) (r : Fin 1024) (l : Fin n) :
    (∑ k : Fin 1024, (h (ix2 r k) : EReal) * ldW a ha (iblk m c 2 t) n o inb (ix2 k l))
      = cols (rowCols m c (rowOf t r)) (colOf t ⟨o + l.val, by have : o + n ≤ 2944 := inb 1; omega⟩) := by
  unfold rowCols row proj
  rw [← sum_cols]
  refine Finset.sum_congr rfl fun k _ => ?_
  rw [ldW_apply, w_block, hh r k]

/-- What a grid point leaves of the first result. -/
def leaves (t : Fin cfg0.N) : S1024x2944.Idx → EReal := fun y => cols (rowCols m c (rowOf t (y 0))) (colOf t (y 1))

theorem piece (t : Fin cfg0.N) (h : Vec Ideal S1024x1024 .bf16) (hh : Held m c (t.val / 3) (by have := points t; omega) h)
    (a : Memref sig .tc .vmem S1024x2944 .bf16) (ha : a.IsWhole) (n o : ℕ)
    (inb : ∀ a : Fin S1024x2944.rank, (![0, o] : Fin 2 → ℕ) a + (![1024, n] : Fin 2 → ℕ) a ≤ S1024x2944.size a)
    (P : (⟨2, ![1024, n]⟩ : Shape).Idx → EReal)
    (hP : ∀ (r : Fin 1024) (l : Fin n), P (ix2 r l) = ∑ k : Fin 1024, (h (ix2 r k) : EReal) * ldW a ha (iblk m c 2 t) n o inb (ix2 k l))
    (x : (⟨2, ![1024, n]⟩ : Shape).Idx) :
    P x = leaves m c t ((Rect.unit (s := S1024x2944) ![0, o] ![1024, n] inb).emb x) := by
  rw [eq_ix2 x]
  refine (hP _ _).trans ((chunk m c t h hh a ha n o inb _ _).trans ?_)
  unfold leaves
  refine congrArg₂ _ (congrArg _ (congrArg _ (Fin.ext ?_))) (congrArg _ (Fin.ext ?_))
  · show (x 0).val = 0 + 1 * (x 0).val
    omega
  · show o + (x 1).val = o + 1 * (x 1).val
    omega

theorem pieces_AB (t : Fin cfg0.N) (h : Vec Ideal S1024x1024 .bf16) (hh : Held m c (t.val / 3) (by have := points t; omega) h)
    (a : Memref sig .tc .vmem S1024x2944 .bf16) (ha : a.IsWhole) :
    View.PiecesOf (leaves m c t) (productsAB a ha (iblk m c 2 t) h) :=
  ⟨piece m c t h hh a ha 384 2560 _ _ (proj384_apply _ _), piece m c t h hh a ha 512 2048 _ _ (proj512_apply _ _),
    piece m c t h hh a ha 512 1536 _ _ (proj512_apply _ _), piece m c t h hh a ha 512 1024 _ _ (proj512_apply _ _),
    piece m c t h hh a ha 512 512 _ _ (proj512_apply _ _), piece m c t h hh a ha 512 0 _ _ (proj512_apply _ _), trivial⟩

theorem pieces_C (t : Fin cfg0.N) (h : Vec Ideal S1024x1024 .bf16) (hh : Held m c (t.val / 3) (by have := points t; omega) h)
    (a : Memref sig .tc .vmem S1024x2944 .bf16) (ha : a.IsWhole) :
    View.PiecesOf (leaves m c t) (productsC a ha (iblk m c 2 t) h) :=
  ⟨piece m c t h hh a ha 128 2816 _ _ (proj128_apply _ _), piece m c t h hh a ha 512 2304 _ _ (proj512_apply _ _),
    piece m c t h hh a ha 512 1792 _ _ (proj512_apply _ _), piece m c t h hh a ha 512 1280 _ _ (proj512_apply _ _),
    piece m c t h hh a ha 256 1024 _ _ (proj256_apply _ _), piece m c t h hh a ha 512 512 _ _ (proj512_apply _ _),
    piece m c t h hh a ha 512 0 _ _ (proj512_apply _ _), trivial⟩

theorem products_block (t : Fin cfg0.N) (y : S1024x2944.Idx) : (outsAt0 m c t.val t.isLt).1 y = leaves m c t y := by
  by_cases h0 : t.val % 3 = 0
  · rw [outsAt0_A m c t h0 (by omega) (by omega)]
    dsimp only
    unfold out0_A_8
    rw [View.read_writes_junk_eq_canon]
    refine View.canon_apply_of_pieces (Val := Elt Ideal) (leaves m c t) _ ?_ y
      (cover0_A_8 _ _ _ _ _ _ _ _ _ _ _ _ _ _ _ _ _ _ _ _ _ _ _ _ _ _ _ _ _ _ _ _ _ _ _ _ _ _ _ _ _ y)
    rw [products_A]
    exact (pieces_AB m c t _ (held_back m c t _ _ rfl _) _ _).mem
  by_cases h2 : t.val % 3 = 2
  · rw [outsAt0_C m c t h0 (by omega) h2]
    dsimp only
    unfold out0_C_8
    rw [View.read_writes_junk_eq_canon]
    refine View.canon_apply_of_pieces (Val := Elt Ideal) (leaves m c t) _ ?_ y
      (cover0_C_8 _ _ _ _ _ _ _ _ _ _ _ _ _ _ _ _ _ _ _ _ _ _ _ _ _ _ _ _ _ _ _ _ _ _ _ _ _ _ _ _ _ _ y)
    rw [products_C]
    exact (pieces_C m c t _ (held_ld m c t h0 _ _ _ rfl _ _) _ _).mem
  · rw [outsAt0_B m c t h0 (by omega) h2]
    dsimp only
    unfold out0_B_8
    rw [View.read_writes_junk_eq_canon]
    refine View.canon_apply_of_pieces (Val := Elt Ideal) (leaves m c t) _ ?_ y
      (cover0_B_8 _ _ _ _ _ _ _ _ _ _ _ _ _ _ _ _ _ _ _ _ _ _ _ _ _ _ _ _ _ _ _ _ _ _ _ _ _ _ _ _ _ _ y)
    rw [products_B]
    exact (pieces_AB m c t _ (held_ld m c t h0 _ _ _ rfl _ _) _ _).mem

/-! The rotated queries and keys and the values. -/

theorem cols_tail (f : Fin 8768 → EReal) (n : Fin 8832) (h0 : 7168 ≤ n.val) (h1 : n.val < 8704) : cols f n = f ⟨n.val - 7168, by omega⟩ := by
  unfold cols
  rw [if_neg (by omega), if_neg (by omega), if_neg (by omega), if_pos h1]
  exact congrArg f (Fin.ext (by show (n.val - 7168) % 1536 = n.val - 7168; omega))

/-- The last columns' lanes: 128 of 512 columns. -/
theorem lane (t : Fin cfg0.N) (h2 : t.val % 3 = 2) (h : Vec Ideal S1024x1024 .bf16)
    (hh : Held m c (t.val / 3) (by have := points t; omega) h)
    (a : Memref sig .tc .vmem S1024x2944 .bf16) (ha : a.IsWhole) (o : ℕ)
    (inb : ∀ a : Fin S1024x2944.rank, (![0, o] : Fin 2 → ℕ) a + (![1024, 512] : Fin 2 → ℕ) a ≤ S1024x2944.size a)
    (s : Fin 4) (r : Fin 1024) (l : Fin 128) (n : ℕ) (hn : n + 1280 = o + 128 * s.val + l.val) (hn' : n < 1536) :
    lanes s (proj512 h (ldW a ha (iblk m c 2 t) 512 o inb)) (ix2 r l) = rowCols m c (rowOf t r) ⟨n, by omega⟩ := by
  have ho : o + 512 ≤ 2944 := inb 1
  rw [lanes_apply, proj512_apply, chunk m c t h hh, cols_tail]
  · refine congrArg _ (Fin.ext ?_)
    simp only [colOf]
    omega
  · simp only [colOf]
    omega
  · simp only [colOf]
    omega

theorem tables_Q (t : Fin cfg0.N) (a7 : Memref sig .tc .vmem S1x128 .f32) (h7 : a7.IsWhole) (a9 : Memref sig .tc .vmem S128x128 .bf16)
    (h9 : a9.IsWhole) (a5 a6 : Memref sig .tc .vmem S1024x128 .f32) (h5 : a5.IsWhole) (h6 : a6.IsWhole) :
    Tables (fun r => pos (rowOf t r)) (argQ m c) (argC m c) (argS m c) (ldRow a7 h7 (iblk m c 5 t)) (ldSeg a9 h9 (iblk m c 7 t))
      (ldTab a5 h5 (iblk m c 3 t)) (ldTab a6 h6 (iblk m c 4 t)) where
  gain l := (ldRow_apply _ _ _ l).trans (q_block m c t l)
  seg n l := (ldSeg_apply _ _ _ n l).trans (h_block m c t n l)
  cos r l := (ldTab_apply _ _ _ r l).trans (c_block m c t r l)
  sin r l := (ldTab_apply _ _ _ r l).trans (s_block m c t r l)

theorem tables_K (t : Fin cfg0.N) (a8 : Memref sig .tc .vmem S1x128 .f32) (h8 : a8.IsWhole) (a9 : Memref sig .tc .vmem S128x128 .bf16)
    (h9 : a9.IsWhole) (a5 a6 : Memref sig .tc .vmem S1024x128 .f32) (h5 : a5.IsWhole) (h6 : a6.IsWhole) :
    Tables (fun r => pos (rowOf t r)) (argK m c) (argC m c) (argS m c) (ldRow a8 h8 (iblk m c 6 t)) (ldSeg a9 h9 (iblk m c 7 t))
      (ldTab a5 h5 (iblk m c 3 t)) (ldTab a6 h6 (iblk m c 4 t)) where
  gain l := (ldRow_apply _ _ _ l).trans (k_block m c t l)
  seg n l := (ldSeg_apply _ _ _ n l).trans (h_block m c t n l)
  cos r l := (ldTab_apply _ _ _ r l).trans (c_block m c t r l)
  sin r l := (ldTab_apply _ _ _ r l).trans (s_block m c t r l)

theorem head_congr (f : Fin 8768 → EReal) {o o' : ℕ} (h : o + 64 ≤ 8768) (h' : o' + 64 ≤ 8768) (g : HeadGains) (a s : Angles) (p : Fin 2048)
    {d d' : Fin 64} (ho : o = o') (hd : d.val = d'.val) : head f o h g a s p d = head f o' h' g a s p d' := by
  subst ho
  rw [Fin.ext hd]

theorem steps_block (t : Fin cfg0.N) (h2 : t.val % 3 = 2) (r : Fin 1024) (l : Fin 128) :
    (outsAt0 m c t.val t.isLt).2.1 (ix2 r l) = cols (rowCols m c (rowOf t r)) ⟨8704 + l.val, by omega⟩ := by
  rw [outsAt0_C m c t (by omega) (by omega) h2]
  dsimp only
  unfold out0_C_9
  rw [View.read_writes_junk_eq_canon, steps_C, View.canon_cons_unit_lit _ _ _ (by decide), proj128_apply,
    chunk m c t _ (held_ld m c t (by omega) _ _ _ rfl _ _)]
  refine congrArg _ (Fin.ext ?_)
  simp only [colOf]
  omega

theorem query_block (t : Fin cfg0.N) (h2 : t.val % 3 = 2) (r : Fin 1024) (l : Fin 1024) :
    (outsAt0 m c t.val t.isLt).2.2.1 (ix2 r l)
      = query (rowCols m c (rowOf t r)) ⟨l.val / 64, by omega⟩ (argQ m c) (argC m c) (argS m c) (pos (rowOf t r)) ⟨l.val % 64, by omega⟩ := by
  rw [outsAt0_C m c t (by omega) (by omega) h2]
  dsimp only
  unfold out0_C_10
  rw [View.read_writes_junk_eq_canon, stores_Q]
  refine View.canon_ofFn_unit_eq_of_forall (S := S1024x1024) offQ S1024x128.size inb_offQ _ _ _ ?_ fun n x hx => ?_
  · refine ⟨⟨7 - l.val / 128, by omega⟩, Fin.forall_fin_two.2 ⟨⟨?_, ?_⟩, ?_, ?_⟩⟩
    · show 0 ≤ r.val
      omega
    · show r.val < 0 + 1024
      omega
    · show 128 * (7 - (7 - l.val / 128)) ≤ l.val
      omega
    · show l.val < 128 * (7 - (7 - l.val / 128)) + 128
      omega
  · have h0 : r.val = 0 + (x 0).val := hx 0
    have h1 : l.val = 128 * (7 - n.val) + (x 1).val := hx 1
    have b1 : (x 1).val < 128 := (x 1).isLt
    have hr : x 0 = r := Fin.ext (by omega)
    rw [eq_ix2 x, hr]
    unfold tileQ query
    refine (scaled_apply _ r ⟨(x 1).val, b1⟩).trans ?_
    refine congrArg (· * _) ((slab_half (tables_Q m c t _ _ _ _ _ _ _ _) _ (rowCols m c (rowOf t r)) (128 * (7 - n.val) + 64 * ((x 1).val / 64)) (by omega) r
      ⟨(x 1).val / 64, by omega⟩ (fun d => ?_) ⟨(x 1).val % 64, by omega⟩ _ (by show (x 1).val = 64 * ((x 1).val / 64) + (x 1).val % 64; omega)).trans ?_)
    · exact lane m c t h2 _ (held_ld m c t (by omega) _ _ _ rfl _ _) _ _ _ _ _ r _ _
        (by show 128 * (7 - n.val) + 64 * ((x 1).val / 64) + d.val + 1280
              = 1280 + 512 * ((7 - n.val) / 4) + 128 * ((7 - n.val) % 4) + (64 * ((x 1).val / 64) + d.val); omega) (by omega)
    · exact head_congr _ _ _ _ _ _ _ (by show _ = 64 * (l.val / 64); omega) (by show (x 1).val % 64 = l.val % 64; omega)

theorem key_block (t : Fin cfg0.N) (h2 : t.val % 3 = 2) (r : Fin 1024) (l : Fin 512) :
    (outsAt0 m c t.val t.isLt).2.2.2.1 (ix2 r l)
      = key (rowCols m c (rowOf t r)) ⟨l.val / 128, by omega⟩ (argK m c) (argC m c) (argS m c) (pos (rowOf t r)) ⟨l.val % 64, by omega⟩ := by
  rw [outsAt0_C m c t (by omega) (by omega) h2]
  dsimp only
  unfold out0_C_11
  rw [View.read_writes_junk_eq_canon, stores_K]
  refine View.canon_ofFn_unit_eq_of_forall (S := S1024x512) offK S1024x128.size inb_offK _ _ _ ?_ fun n x hx => ?_
  · refine ⟨⟨3 - l.val / 128, by omega⟩, Fin.forall_fin_two.2 ⟨⟨?_, ?_⟩, ?_, ?_⟩⟩
    · show 0 ≤ r.val
      omega
    · show r.val < 0 + 1024
      omega
    · show 128 * (3 - (3 - l.val / 128)) ≤ l.val
      omega
    · show l.val < 128 * (3 - (3 - l.val / 128)) + 128
      omega
  · have h0 : r.val = 0 + (x 0).val := hx 0
    have h1 : l.val = 128 * (3 - n.val) + (x 1).val := hx 1
    have b1 : (x 1).val < 128 := (x 1).isLt
    have hr : x 0 = r := Fin.ext (by omega)
    rw [eq_ix2 x, hr]
    unfold tileK key
    refine (doubled_apply _ _ r ⟨(x 1).val, b1⟩).trans ?_
    refine (slab_half (tables_K m c t _ _ _ _ _ _ _ _) _ (rowCols m c (rowOf t r)) (1024 + 64 * (3 - n.val)) (by omega) r
      ⟨(3 - n.val) % 2, by omega⟩ (fun d => ?_) ⟨(x 1).val % 64, by omega⟩ _ rfl).trans ?_
    · exact lane m c t h2 _ (held_ld m c t (by omega) _ _ _ rfl _ _) _ _ _ _ _ r _ _
        (by show 1024 + 64 * (3 - n.val) + d.val + 1280
              = 2304 + 128 * ((3 - n.val) / 2) + (64 * ((3 - n.val) % 2) + d.val); omega) (by omega)
    · exact head_congr _ _ _ _ _ _ _ (by show _ = 1024 + 64 * (l.val / 128); omega) (by show (x 1).val % 64 = l.val % 64; omega)

theorem value_block (t : Fin cfg0.N) (h2 : t.val % 3 = 2) (r : Fin 1024) (l : Fin 512) :
    (outsAt0 m c t.val t.isLt).2.2.2.2.1 (ix2 r l)
      = value (rowCols m c (rowOf t r)) ⟨l.val / 128, by omega⟩ ⟨l.val % 64, by omega⟩ := by
  rw [outsAt0_C m c t (by omega) (by omega) h2]
  dsimp only
  unfold out0_C_12
  rw [View.read_writes_junk_eq_canon, stores_V]
  refine View.canon_ofFn_unit_eq_of_forall (S := S1024x512) offK S1024x128.size inb_offK _ _ _ ?_ fun n x hx => ?_
  · refine ⟨⟨3 - l.val / 128, by omega⟩, Fin.forall_fin_two.2 ⟨⟨?_, ?_⟩, ?_, ?_⟩⟩
    · show 0 ≤ r.val
      omega
    · show r.val < 0 + 1024
      omega
    · show 128 * (3 - (3 - l.val / 128)) ≤ l.val
      omega
    · show l.val < 128 * (3 - (3 - l.val / 128)) + 128
      omega
  · have h0 : r.val = 0 + (x 0).val := hx 0
    have h1 : l.val = 128 * (3 - n.val) + (x 1).val := hx 1
    have b1 : (x 1).val < 128 := (x 1).isLt
    have hr : x 0 = r := Fin.ext (by omega)
    rw [eq_ix2 x, hr]
    unfold tileV value
    refine (doubled_apply _ _ r ⟨(x 1).val, b1⟩).trans ?_
    exact lane m c t h2 _ (held_ld m c t (by omega) _ _ _ rfl _ _) _ _ _ _ _ r _ _
      (by show 1280 + 64 * (l.val / 128) + l.val % 64 + 1280
            = 2304 + 128 * (2 + (3 - n.val) / 2) + (64 * ((3 - n.val) % 2) + (x 1).val % 64); omega) (by omega)

/-! The five result arrays. -/

theorem result0 : (dats m 0 c).arrAt 8 cfg0.N = res0 (argX m c) (argG m c) (argW m c) := by
  refine (dats m 0 c).arrAt_eq_of_covers 8 _ (by decide +kernel) fun t hf y => ?_
  blk_simp
  rw [after0_8]
  obtain ⟨h0, h1⟩ := idx8 t
  rw [products_block]
  unfold leaves res0
  refine congrArg₂ _ (congrArg _ (Fin.ext ?_)) (Fin.ext ?_)
  · show 1024 * (t.val / 3) + (y 0).val = _
    blk_simp [h0]
    omega
  · show 2944 * (t.val % 3) + (y 1).val = _
    blk_simp [h1]
    omega

theorem result1 : (dats m 0 c).arrAt 9 cfg0.N = res1 (argX m c) (argG m c) (argW m c) := by
  refine (dats m 0 c).arrAt_eq_of_covers 9 _ (by decide +kernel) fun t hf y => ?_
  blk_simp
  rw [after0_9]
  obtain ⟨h0, h1⟩ := idx9 t
  have e := steps_block m c t ((flush0_9 t).1 hf) (y 0) (y 1)
  rw [← eq_ix2 y] at e
  rw [e]
  unfold res1
  refine congrArg₂ _ (congrArg _ (Fin.ext ?_)) (Fin.ext ?_)
  · show 1024 * (t.val / 3) + (y 0).val = _
    blk_simp [h0]
    omega
  · show 8704 + (y 1).val = 8704 + _
    blk_simp [h1]

theorem query_congr (x : Xs) (g : Gains) (w : Ws) (hg : HeadGains) (a s : Angles) {r r' : Fin 32768} {h h' : Fin 16} {d d' : Fin 64}
    (hr : r.val = r'.val) (hh : h.val = h'.val) (hd : d.val = d'.val) :
    query (row x g w r) h hg a s (pos r) d = query (row x g w r') h' hg a s (pos r') d' := by
  rw [Fin.ext hr, Fin.ext hh, Fin.ext hd]
theorem key_congr (x : Xs) (g : Gains) (w : Ws) (hg : HeadGains) (a s : Angles) {r r' : Fin 32768} {h h' : Fin 4} {d d' : Fin 64}
    (hr : r.val = r'.val) (hh : h.val = h'.val) (hd : d.val = d'.val) :
    key (row x g w r) h hg a s (pos r) d = key (row x g w r') h' hg a s (pos r') d' := by
  rw [Fin.ext hr, Fin.ext hh, Fin.ext hd]
theorem value_congr (x : Xs) (g : Gains) (w : Ws) {r r' : Fin 32768} {h h' : Fin 4} {d d' : Fin 64}
    (hr : r.val = r'.val) (hh : h.val = h'.val) (hd : d.val = d'.val) : value (row x g w r) h d = value (row x g w r') h' d' := by
  rw [Fin.ext hr, Fin.ext hh, Fin.ext hd]

theorem result2 : (dats m 0 c).arrAt 10 cfg0.N = res2 (argX m c) (argG m c) (argW m c) (argQ m c) (argC m c) (argS m c) := by
  refine (dats m 0 c).arrAt_eq_of_covers 10 _ (by decide +kernel) fun t hf y => ?_
  blk_simp
  rw [after0_10]
  obtain ⟨h0, h1⟩ := idx10 t
  have e := query_block m c t ((flush0_10 t).1 hf) (y 0) (y 1)
  rw [← eq_ix2 y] at e
  rw [e]
  unfold res2
  refine query_congr _ _ _ _ _ _ ?_ ?_ ?_
  · show 1024 * (t.val / 3) + (y 0).val = _
    blk_simp [h0]
    omega
  · blk_simp [h1]
  · blk_simp [h1]

theorem result3 : (dats m 0 c).arrAt 11 cfg0.N = res3 (argX m c) (argG m c) (argW m c) (argK m c) (argC m c) (argS m c) := by
  refine (dats m 0 c).arrAt_eq_of_covers 11 _ (by decide +kernel) fun t hf y => ?_
  blk_simp
  rw [after0_11]
  obtain ⟨h0, h1⟩ := idx11 t
  have e := key_block m c t ((flush0_11 t).1 hf) (y 0) (y 1)
  rw [← eq_ix2 y] at e
  rw [e]
  unfold res3
  refine key_congr _ _ _ _ _ _ ?_ ?_ ?_
  · show 1024 * (t.val / 3) + (y 0).val = _
    blk_simp [h0]
    omega
  · blk_simp [h1]
  · blk_simp [h1]

theorem result4 : (dats m 0 c).arrAt 12 cfg0.N = res4 (argX m c) (argG m c) (argW m c) := by
  refine (dats m 0 c).arrAt_eq_of_covers 12 _ (by decide +kernel) fun t hf y => ?_
  blk_simp
  rw [after0_12]
  obtain ⟨h0, h1⟩ := idx12 t
  have e := value_block m c t ((flush0_12 t).1 hf) (y 0) (y 1)
  rw [← eq_ix2 y] at e
  rw [e]
  unfold res4
  refine value_congr _ _ _ ?_ ?_ ?_
  · show 1024 * (t.val / 3) + (y 0).val = _
    blk_simp [h0]
    omega
  · blk_simp [h1]
  · blk_simp [h1]

end Cert.Proof.InOut

end
-- ==== Proof.InEqual.lean ====
/- The in-projection's two idealized programs leave the same results. -/
module

public import proofs.«01_k».proof.Defs
public import proofs.«01_k».proof.Proof.InRef
public import proofs.«01_k».proof.Proof.InOut

@[expose] public section

noncomputable section

namespace Cert.Proof

open Idealize.ShloMosaic Idealize.SL.Sem Cert.Proof.InMath Cert.Proof.InHost Cert.Proof.InOut Cert.Proof.InRef

theorem in_equal : Cert.algebraic_InKernelIdeal_InReferenceIdeal := by
  intro m g m' g' _ agree
  have row_eq : ∀ (c : Dev Cert.InKernelIdeal.nD) (r : Fin 32768),
      (fun k => projOf m' c (ix3 (bat r) (pos r) k)) = row (argX m c) (argG m c) (argW m c) r := by
    intro c r
    obtain ⟨a0, a1, a2, _⟩ := agree c
    funext k
    unfold projOf row
    rw [a0, a1, a2]
    exact refProj_apply _ _ _ _ _ _
  refine ⟨fun c => (Cert.InKernelIdeal.Gen.dats m 0 c).arrAt 8 Cert.InKernelIdeal.cfg0.N,
    fun c => (Cert.InKernelIdeal.Gen.dats m 0 c).arrAt 9 Cert.InKernelIdeal.cfg0.N,
    fun c => (Cert.InKernelIdeal.Gen.dats m 0 c).arrAt 10 Cert.InKernelIdeal.cfg0.N,
    fun c => (Cert.InKernelIdeal.Gen.dats m 0 c).arrAt 11 Cert.InKernelIdeal.cfg0.N,
    fun c => (Cert.InKernelIdeal.Gen.dats m 0 c).arrAt 12 Cert.InKernelIdeal.cfg0.N, Cert.InKernelIdeal.Value.run_blocks m g,
    (θ_run Cert.InReferenceIdeal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.InReferenceIdeal.Value.run (F := Ideal) m' g')⟩
  · refine Eq.trans (funext fun i => ?_) (result0 m c).symm
    have e := fun r n => ref0_apply (projOf m' c) r n
    simp only [row_eq] at e
    have e := e (i 0) (i 1)
    rw [← eq_ix2 i] at e
    exact e
  · refine Eq.trans (funext fun i => ?_) (result1 m c).symm
    have e := fun r n => ref1_apply (projOf m' c) r n
    simp only [row_eq] at e
    have e := e (i 0) (i 1)
    rw [← eq_ix2 i] at e
    exact e
  · refine Eq.trans (funext fun i => ?_) (result2 m c).symm
    obtain ⟨_, _, _, a3, _, a5, a6⟩ := agree c
    have e := fun r n => ref2_apply (projOf m' c) (argQ m c) (argC m c) (argS m c) r n
    simp only [row_eq] at e
    have e := e (i 0) (i 1)
    rw [← eq_ix2 i] at e
    rw [query_run, a3, a5, a6]
    exact e
  · refine Eq.trans (funext fun i => ?_) (result3 m c).symm
    obtain ⟨_, _, _, _, a4, a5, a6⟩ := agree c
    have e := fun r n => ref3_apply (projOf m' c) (argK m c) (argC m c) (argS m c) r n
    simp only [row_eq] at e
    have e := e (i 0) (i 1)
    rw [← eq_ix2 i] at e
    rw [key_run, a4, a5, a6]
    exact e
  · refine Eq.trans (funext fun i => ?_) (result4 m c).symm
    have e := fun r n => ref4_apply (projOf m' c) r n
    simp only [row_eq] at e
    have e := e (i 0) (i 1)
    rw [← eq_ix2 i] at e
    exact e

end Cert.Proof

end
-- ==== Proof.OutRun.lean ====
/- The out-projection kernel's body run at a grid point, for either batch: what it stores into each of its two results. -/
module

public import proofs.«01_k».proof.Proof.Gen.OutKernelIdeal.Frame
public import proofs.«01_k».proof.Proof.Gen.OutKernelIdeal.Skeleton
public import Idealize.ShloMosaic.Lib.Tactic
public import Idealize.ShloMosaic.Lib.WordCmp

@[expose] public section

set_option maxRecDepth 16384

noncomputable section

namespace Cert.Proof.OutRun

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev World (F : FTy → Type) := MT nD τ sig Unit (Elt F) ℕ (UR sig nD τ) ℕ

/-- The blocks the body reads. -/
structure Ins (F : FTy → Type) where
  x0 : Vec F S512x1024 .bf16
  x1 : Vec F S512x2048 .bf16
  x2 : Vec F S512x2048 .bf16
  x3 : Vec F S512x1024 .f32
  x4 : Vec F S512x1024 .bf16
  x5 : Vec F S512x2048 .bf16
  x6 : Vec F S512x2048 .bf16
  x7 : Vec F S512x1024 .f32
  x8 : Vec F S1024x1024 .bf16
  x9 : Vec F S2048x1024 .bf16
  x10 : Vec F S1024x1024 .bf16
  x11 : Vec F S1x1024 .f32
  x12 : Vec F S1024x128 .bf16
  x13 : Vec F S1024x128 .bf16
  x14 : Vec F S1x128 .f32

variable (c : Dev nD) (i : grid0.Coords)
variable (a0 : Memref sig .tc .vmem S512x1024 .bf16) (h0 : a0.IsWhole)
variable (a1 : Memref sig .tc .vmem S512x2048 .bf16) (h1 : a1.IsWhole)
variable (a2 : Memref sig .tc .vmem S512x2048 .bf16) (h2 : a2.IsWhole)
variable (a3 : Memref sig .tc .vmem S512x1024 .f32) (h3 : a3.IsWhole)
variable (a4 : Memref sig .tc .vmem S512x1024 .bf16) (h4 : a4.IsWhole)
variable (a5 : Memref sig .tc .vmem S512x2048 .bf16) (h5 : a5.IsWhole)
variable (a6 : Memref sig .tc .vmem S512x2048 .bf16) (h6 : a6.IsWhole)
variable (a7 : Memref sig .tc .vmem S512x1024 .f32) (h7 : a7.IsWhole)
variable (a8 : Memref sig .tc .vmem S1024x1024 .bf16) (h8 : a8.IsWhole)
variable (a9 : Memref sig .tc .vmem S2048x1024 .bf16) (h9 : a9.IsWhole)
variable (a10 : Memref sig .tc .vmem S1024x1024 .bf16) (h10 : a10.IsWhole)
variable (a11 : Memref sig .tc .vmem S1x1024 .f32) (h11 : a11.IsWhole)
variable (a12 : Memref sig .tc .vmem S1024x128 .bf16) (h12 : a12.IsWhole)
variable (a13 : Memref sig .tc .vmem S1024x128 .bf16) (h13 : a13.IsWhole)
variable (a14 : Memref sig .tc .vmem S1x128 .f32) (h14 : a14.IsWhole)
variable (a15 : Memref sig .tc .vmem S4096x128 .f32) (h15 : a15.IsWhole)
variable (a16 : Memref sig .tc .vmem S8x512 .f32) (h16 : a16.IsWhole)

/-- The memrefs of the blocks at their contents. -/
def held (X : Ins F) : sProp (World F) :=
  iprop(owns (c : Thread nD τ) a0 fullShare X.x0
    ∗ owns (c : Thread nD τ) a1 fullShare X.x1
    ∗ owns (c : Thread nD τ) a2 fullShare X.x2
    ∗ owns (c : Thread nD τ) a3 fullShare X.x3
    ∗ owns (c : Thread nD τ) a4 fullShare X.x4
    ∗ owns (c : Thread nD τ) a5 fullShare X.x5
    ∗ owns (c : Thread nD τ) a6 fullShare X.x6
    ∗ owns (c : Thread nD τ) a7 fullShare X.x7
    ∗ owns (c : Thread nD τ) a8 fullShare X.x8
    ∗ owns (c : Thread nD τ) a9 fullShare X.x9
    ∗ owns (c : Thread nD τ) a10 fullShare X.x10
    ∗ owns (c : Thread nD τ) a11 fullShare X.x11
    ∗ owns (c : Thread nD τ) a12 fullShare X.x12
    ∗ owns (c : Thread nD τ) a13 fullShare X.x13
    ∗ owns (c : Thread nD τ) a14 fullShare X.x14)

/-- The results' memrefs with the pieces written over anything. -/
def left (L : List (View.Piece (Elt F) S4096x128 .f32)) (L' : List (View.Piece (Elt F) S8x512 .f32)) : sProp (World F) :=
  iprop((∃ f, a15.view.loc (c : Thread nD τ) ↦[a15.view.set]{fullShare} a15.view.writes (Elt F) f L)
    ∗ (∃ f, a16.view.loc (c : Thread nD τ) ↦[a16.view.set]{fullShare} a16.view.writes (Elt F) f L'))

-- a batch's run is of some two hundred operations over seventeen buffers
set_option maxHeartbeats 1000000 in
/-- At a point of the first batch. -/
def runFirst (hc0 : k0_cond1 i = 1#1) (hc1 : ¬ k0_cond2 i = 1#1) (X : Ins F) :
    Σ' L : List (View.Piece (Elt F) S4096x128 .f32), { L' : List (View.Piece (Elt F) S8x512 .f32) //
      ∀ (E : Set ℕ) (K : PUnit → sProp (World F)),
        iprop(held c a0 a1 a2 a3 a4 a5 a6 a7 a8 a9 a10 a11 a12 a13 a14 X ∗ (∃ d, owns (c : Thread nD τ) a15 fullShare d) ∗ (∃ d, owns (c : Thread nD τ) a16 fullShare d)
            ∗ (iprop(held c a0 a1 a2 a3 a4 a5 a6 a7 a8 a9 a10 a11 a12 a13 a14 X ∗ left c a15 a16 L L') -∗ K ⟨⟩))
          ⊢ wp frame (wpE (defs₀ (F := F)) Variants.none c none) E (cc0_outproj_router i a0 h0 a1 h1 a2 h2 a3 h3 a4 h4 a5 h5 a6 h6 a7 h7 a8 h8 a9 h9 a10 h10 a11 h11 a12 h12 a13 h13 a14 h14 a15 h15 a16 h16) K } := by
  refine ⟨?_, ?_, fun E K => ?run⟩
  case run =>
    simp only [cc0_outproj_router_eq_skeleton]; unfold cc0_outproj_router_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold held left owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, ⟨%d15, %f15, -, H15⟩, ⟨%d16, %f16, -, H16⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14
    sl_exec (disch := first | sl_exact hc0 | sl_exact hc1)
    sl_step
    iapply Hk
    isplitl [H0 H1 H2 H3 H4 H5 H6 H7 H8 H9 H10 H11 H12 H13 H14]
    ·
      isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; isplitr; · ipureintro; exact h13.read_unread _
        iexact H13
      iexists _; isplitr; · ipureintro; exact h14.read_unread _
      iexact H14
    isplitl [H15]; · iexists _; iexact H15
    iexists _; iexact H16

-- a batch's run is of some two hundred operations over seventeen buffers
set_option maxHeartbeats 1000000 in
/-- At a point of the second batch. -/
def runSecond (hc0 : ¬ k0_cond1 i = 1#1) (hc1 : k0_cond2 i = 1#1) (X : Ins F) :
    Σ' L : List (View.Piece (Elt F) S4096x128 .f32), { L' : List (View.Piece (Elt F) S8x512 .f32) //
      ∀ (E : Set ℕ) (K : PUnit → sProp (World F)),
        iprop(held c a0 a1 a2 a3 a4 a5 a6 a7 a8 a9 a10 a11 a12 a13 a14 X ∗ (∃ d, owns (c : Thread nD τ) a15 fullShare d) ∗ (∃ d, owns (c : Thread nD τ) a16 fullShare d)
            ∗ (iprop(held c a0 a1 a2 a3 a4 a5 a6 a7 a8 a9 a10 a11 a12 a13 a14 X ∗ left c a15 a16 L L') -∗ K ⟨⟩))
          ⊢ wp frame (wpE (defs₀ (F := F)) Variants.none c none) E (cc0_outproj_router i a0 h0 a1 h1 a2 h2 a3 h3 a4 h4 a5 h5 a6 h6 a7 h7 a8 h8 a9 h9 a10 h10 a11 h11 a12 h12 a13 h13 a14 h14 a15 h15 a16 h16) K } := by
  refine ⟨?_, ?_, fun E K => ?run⟩
  case run =>
    simp only [cc0_outproj_router_eq_skeleton]; unfold cc0_outproj_router_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold held left owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩, ⟨%d15, %f15, -, H15⟩, ⟨%d16, %f16, -, H16⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14
    sl_exec (disch := first | sl_exact hc0 | sl_exact hc1)
    sl_step
    iapply Hk
    isplitl [H0 H1 H2 H3 H4 H5 H6 H7 H8 H9 H10 H11 H12 H13 H14]
    ·
      isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      isplitl [H12]
      · iexists _; isplitr; · ipureintro; exact h12.read_unread _
        iexact H12
      isplitl [H13]
      · iexists _; isplitr; · ipureintro; exact h13.read_unread _
        iexact H13
      iexists _; isplitr; · ipureintro; exact h14.read_unread _
      iexact H14
    isplitl [H15]; · iexists _; iexact H15
    iexists _; iexact H16

end Cert.Proof.OutRun

end
-- ==== Proof.OutTile.lean ====
/- What the out-projection kernel stores into its first result at a grid point: sixteen stores, each of every eighth row,
   128 of the columns of a half of the tokens' rows; together they cover the block. -/
module

public import proofs.«01_k».proof.Proof.OutRun
public import Idealize.ShloMosaic.Lib.Ring

@[expose] public section

set_option maxRecDepth 16384

noncomputable section

namespace Cert.Proof.OutTile

open Cert.OutKernelIdeal Cert.OutKernelIdeal.Gen Idealize.ShloMosaic Idealize.ShloMosaic.TcCoe Idealize.ShloMosaic.Tactic
open Idealize.SL.Sem Cert.Proof.OutRun

variable {F : FTy → Type} [FloatOps F]

/-- A load of `n` rows from `o` and `k` columns from `p`. -/
def ld {A B : ℕ} {e : EltTy} (a : Memref sig .tc .vmem ⟨2, ![A, B]⟩ e) (ha : a.IsWhole) (x : (⟨2, ![A, B]⟩ : Shape).Idx → Elt F e) (n k o p : ℕ)
    (h : ∀ b : Fin 2, (![o, p] : Fin 2 → ℕ) b + (![n, k] : Fin 2 → ℕ) b ≤ (![A, B] : Fin 2 → ℕ) b) : (⟨2, ![n, k]⟩ : Shape).Idx → Elt F e :=
  View.readAt (Elt F) a.view (Rect.unit (s := ⟨2, ![A, B]⟩) ![o, p] ![n, k] h).toLoadRect (ha.unread x)

theorem in_gates : ∀ (u h : Fin 2) (b : Fin 2), (![256 * u.val, 1024 * h.val] : Fin 2 → ℕ) b + (![256, 1024] : Fin 2 → ℕ) b ≤ (![512, 2048] : Fin 2 → ℕ) b := by decide
theorem in_rows : ∀ (u : Fin 2) (b : Fin 2), (![256 * u.val, 0] : Fin 2 → ℕ) b + (![256, 1024] : Fin 2 → ℕ) b ≤ (![512, 1024] : Fin 2 → ℕ) b := by decide
theorem slices_half : ∀ u : Fin 2, S512x1024.Slices ![256 * u.val, 0] S256x1024 := by decide
theorem slices_part : ∀ j : Fin 8, S256x1024.Slices ![0, 128 * j.val] S256x128 := by decide

/-- One over one and the exponential of the negated gate. -/
def gate (g : Vec F S256x1024 .bf16) : FVec F S256x1024 .f32 :=
  divf (broadcast S256x1024 (Scalar.ofBits .f32 0x3F800000#32)) (addf (broadcast S256x1024 (Scalar.ofBits .f32 0x3F800000#32))
    (exp (subf (broadcast S256x1024 (Scalar.ofBits .f32 0x00000000#32)) (extf .f32 g bitsLt_bf16_f32))))

def prodA (x : Vec F S512x1024 .bf16) (w : Vec F S1024x1024 .bf16) : FVec F S512x1024 .f32 :=
  matmul dot_S512x1024_S1024x1024_S512x1024_1_0_0_1_n_n none x (shapeCast S1024x1024 w shapeCasts_S1024x1024_S1024x1024) (constant S512x1024 .f32 0x00000000#32)
def prodS (x : Vec F S512x2048 .bf16) (w : Vec F S2048x1024 .bf16) : FVec F S512x1024 .f32 :=
  matmul dot_S512x2048_S2048x1024_S512x1024_1_0_0_1_n_n none x (shapeCast S2048x1024 w shapeCasts_S2048x1024_S2048x1024) (constant S512x1024 .f32 0x00000000#32)
def prodO (x : FVec F S256x1024 .bf16) (w : Vec F S1024x1024 .bf16) : FVec F S256x1024 .f32 :=
  matmul dot_S256x1024_S1024x1024_S256x1024_1_0_0_1_n_n none x (shapeCast S1024x1024 w shapeCasts_S1024x1024_S1024x1024) (constant S256x1024 .f32 0x00000000#32)

/-- The gated sum of half `u` of the rows, projected and added to the tokens. -/
def half (u : Fin 2) (pa ps : FVec F S512x1024 .f32) (ga gs : Vec F S256x1024 .bf16) (x : Vec F S256x1024 .f32) (w : Vec F S1024x1024 .bf16) :
    FVec F S256x1024 .f32 :=
  addf (shapeCast S256x1024 x shapeCasts_S256x1024_S256x1024)
    (prodO (truncf .bf16 (addf (mulf (gate ga) (extractStridedSlice S256x1024 ![256 * u.val, 0] pa (slices_half u)))
      (mulf (gate gs) (extractStridedSlice S256x1024 ![256 * u.val, 0] ps (slices_half u)))) bitsLt_bf16_f32) w)

section
variable (a : Memref sig .tc .vmem S512x1024 .bf16) (ha : a.IsWhole) (s : Memref sig .tc .vmem S512x2048 .bf16) (hs : s.IsWhole)
variable (g : Memref sig .tc .vmem S512x2048 .bf16) (hg : g.IsWhole) (r : Memref sig .tc .vmem S512x1024 .f32) (hr : r.IsWhole)
variable (wa : Memref sig .tc .vmem S1024x1024 .bf16) (hwa : wa.IsWhole) (ws : Memref sig .tc .vmem S2048x1024 .bf16) (hws : ws.IsWhole)
variable (wo : Memref sig .tc .vmem S1024x1024 .bf16) (hwo : wo.IsWhole)

/-- The same of the blocks' loads. -/
def halfOf (xa : Vec F S512x1024 .bf16) (xs xg : Vec F S512x2048 .bf16) (xr : Vec F S512x1024 .f32) (xwa : Vec F S1024x1024 .bf16)
    (xws : Vec F S2048x1024 .bf16) (xwo : Vec F S1024x1024 .bf16) (u : Fin 2) : FVec F S256x1024 .f32 :=
  half u
    (prodA (ld (A := 512) (B := 1024) a ha xa 512 1024 0 0 (by decide)) (ld (A := 1024) (B := 1024) wa hwa xwa 1024 1024 0 0 (by decide)))
    (prodS (ld (A := 512) (B := 2048) s hs xs 512 2048 0 0 (by decide)) (ld (A := 2048) (B := 1024) ws hws xws 2048 1024 0 0 (by decide)))
    (ld (A := 512) (B := 2048) g hg xg 256 1024 (256 * u.val) (1024 * (0 : Fin 2).val) (in_gates u 0))
    (ld (A := 512) (B := 2048) g hg xg 256 1024 (256 * u.val) (1024 * (1 : Fin 2).val) (in_gates u 1))
    (ld (A := 512) (B := 1024) r hr xr 256 1024 (256 * u.val) 0 (in_rows u))
    (ld (A := 1024) (B := 1024) wo hwo xwo 1024 1024 0 0 (by decide))
end

theorem in_block : ∀ (n : Fin 16) (b : Fin S4096x128.rank), S256x128.size b = 0
    ∨ (![2048 * ((15 - n.val) / 8) + (15 - n.val) % 8, 0] : Fin 2 → ℕ) b + (![8, 1] : Fin 2 → ℕ) b * (S256x128.size b - 1) < S4096x128.size b := by decide

/-- The stores' rows run over the eighths of each half; the list has the last one first. -/
def rowsAt (n : Fin 16) : Rect S4096x128 := ⟨⟨![2048 * ((15 - n.val) / 8) + (15 - n.val) % 8, 0], S256x128.size, ![8, 1], in_block n⟩, spos_8_1⟩

def stores (H : Fin 2 → FVec F S256x1024 .f32) : List (View.Piece (Elt F) S4096x128 .f32) :=
  List.ofFn fun n : Fin 16 => ⟨rowsAt n, extractStridedSlice S256x128 ![0, 128 * ((15 - n.val) % 8)] (H ⟨(15 - n.val) / 8, by omega⟩)
    (slices_part ⟨(15 - n.val) % 8, by omega⟩)⟩

/-- Every row is stored: row `2048 u + 8 x + j` by store `15 - 8 u - j`. -/
theorem stores_cover (H : Fin 2 → FVec F S256x1024 .f32) (y : S4096x128.Idx) : ∃ p ∈ stores H, y ∈ p.1.set := by
  have h0 : (y 0).val < 4096 := (y 0).isLt
  have h1 : (y 1).val < 128 := (y 1).isLt
  refine ⟨_, (List.mem_ofFn ..).mpr ⟨⟨15 - (8 * ((y 0).val / 2048) + (y 0).val % 8), by omega⟩, rfl⟩, LoadRect.mem_set _ |>.mpr fun b => ?_⟩
  fin_cases b
  · refine ⟨(y 0).val % 2048 / 8, ?_, ?_⟩
    · show (y 0).val % 2048 / 8 < 256
      omega
    · show (y 0).val = 2048 * ((15 - (15 - (8 * ((y 0).val / 2048) + (y 0).val % 8))) / 8) + (15 - (15 - (8 * ((y 0).val / 2048) + (y 0).val % 8))) % 8
        + 8 * ((y 0).val % 2048 / 8)
      omega
  · refine ⟨(y 1).val, h1, ?_⟩
    show (y 1).val = 0 + 1 * (y 1).val
    omega

variable (c : Dev nD) (i : grid0.Coords)
variable (a0 : Memref sig .tc .vmem S512x1024 .bf16) (h0 : a0.IsWhole)
variable (a1 : Memref sig .tc .vmem S512x2048 .bf16) (h1 : a1.IsWhole)
variable (a2 : Memref sig .tc .vmem S512x2048 .bf16) (h2 : a2.IsWhole)
variable (a3 : Memref sig .tc .vmem S512x1024 .f32) (h3 : a3.IsWhole)
variable (a4 : Memref sig .tc .vmem S512x1024 .bf16) (h4 : a4.IsWhole)
variable (a5 : Memref sig .tc .vmem S512x2048 .bf16) (h5 : a5.IsWhole)
variable (a6 : Memref sig .tc .vmem S512x2048 .bf16) (h6 : a6.IsWhole)
variable (a7 : Memref sig .tc .vmem S512x1024 .f32) (h7 : a7.IsWhole)
variable (a8 : Memref sig .tc .vmem S1024x1024 .bf16) (h8 : a8.IsWhole)
variable (a9 : Memref sig .tc .vmem S2048x1024 .bf16) (h9 : a9.IsWhole)
variable (a10 : Memref sig .tc .vmem S1024x1024 .bf16) (h10 : a10.IsWhole)
variable (a11 : Memref sig .tc .vmem S1x1024 .f32) (h11 : a11.IsWhole)
variable (a12 : Memref sig .tc .vmem S1024x128 .bf16) (h12 : a12.IsWhole)
variable (a13 : Memref sig .tc .vmem S1024x128 .bf16) (h13 : a13.IsWhole)
variable (a14 : Memref sig .tc .vmem S1x128 .f32) (h14 : a14.IsWhole)
variable (a15 : Memref sig .tc .vmem S4096x128 .f32) (h15 : a15.IsWhole)
variable (a16 : Memref sig .tc .vmem S8x512 .f32) (h16 : a16.IsWhole)
variable (X : Ins F)

theorem stores_first (hc0 : k0_cond1 i = 1#1) (hc1 : ¬ k0_cond2 i = 1#1) : (runFirst c i a0 h0 a1 h1 a2 h2 a3 h3 a4 h4 a5 h5 a6 h6 a7 h7 a8 h8 a9 h9 a10 h10 a11 h11 a12 h12 a13 h13 a14 h14 a15 h15 a16 h16 hc0 hc1 X).1
    = stores (halfOf a0 h0 a1 h1 a2 h2 a3 h3 a8 h8 a9 h9 a10 h10 X.x0 X.x1 X.x2 X.x3 X.x8 X.x9 X.x10) := by
  unfold runFirst
  sl_kernel_rfl

theorem stores_second (hc0 : ¬ k0_cond1 i = 1#1) (hc1 : k0_cond2 i = 1#1) : (runSecond c i a0 h0 a1 h1 a2 h2 a3 h3 a4 h4 a5 h5 a6 h6 a7 h7 a8 h8 a9 h9 a10 h10 a11 h11 a12 h12 a13 h13 a14 h14 a15 h15 a16 h16 hc0 hc1 X).1
    = stores (halfOf a4 h4 a5 h5 a6 h6 a7 h7 a8 h8 a9 h9 a10 h10 X.x4 X.x5 X.x6 X.x7 X.x8 X.x9 X.x10) := by
  unfold runSecond
  sl_kernel_rfl

theorem table_first (hc0 : k0_cond1 i = 1#1) (hc1 : ¬ k0_cond2 i = 1#1) (y : S8x512.Idx) :
    ∃ p ∈ (runFirst c i a0 h0 a1 h1 a2 h2 a3 h3 a4 h4 a5 h5 a6 h6 a7 h7 a8 h8 a9 h9 a10 h10 a11 h11 a12 h12 a13 h13 a14 h14 a15 h15 a16 h16 hc0 hc1 X).2.1, y ∈ p.1.set :=
  View.cover_of_tiledL (runFirst c i a0 h0 a1 h1 a2 h2 a3 h3 a4 h4 a5 h5 a6 h6 a7 h7 a8 h8 a9 h9 a10 h10 a11 h11 a12 h12 a13 h13 a14 h14 a15 h15 a16 h16 hc0 hc1 X).2.1 S8x256.size (by sl_kernel_rfl) y

theorem table_second (hc0 : ¬ k0_cond1 i = 1#1) (hc1 : k0_cond2 i = 1#1) (y : S8x512.Idx) :
    ∃ p ∈ (runSecond c i a0 h0 a1 h1 a2 h2 a3 h3 a4 h4 a5 h5 a6 h6 a7 h7 a8 h8 a9 h9 a10 h10 a11 h11 a12 h12 a13 h13 a14 h14 a15 h15 a16 h16 hc0 hc1 X).2.1, y ∈ p.1.set :=
  View.cover_of_tiledL (runSecond c i a0 h0 a1 h1 a2 h2 a3 h3 a4 h4 a5 h5 a6 h6 a7 h7 a8 h8 a9 h9 a10 h10 a11 h11 a12 h12 a13 h13 a14 h14 a15 h15 a16 h16 hc0 hc1 X).2.1 S8x256.size (by sl_kernel_rfl) y

end Cert.Proof.OutTile

end
-- ==== Proof.OutFrame.lean ====
/- The out-projection kernel's run: the body's obligation at every grid point from the run of its batch, the whole run from
   that, the arguments unchanged after it. -/
module

public import proofs.«01_k».proof.Proof.OutTile
public import Idealize.ShloMosaic.Lib.Pipeline.FrameBody
public import Idealize.ShloMosaic.Lib.Claim

@[expose] public section

set_option maxRecDepth 16384

noncomputable section

namespace Cert.Proof.OutFrame

open Cert.OutKernelIdeal Cert.OutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.OutRun Cert.Proof.OutTile

variable {F : FTy → Type} [FloatOps F]
variable (m : (ℓ : Loc nD τ sig) → Buf (Elt F) ℓ) (ρ : Dev nD → PrngReg) (c : Dev nD)

/-! The batch of a grid point. -/

theorem first_iff : ∀ t : Fin cfg0.N, k0_cond1 (grid0.coords t) = 1#1 ↔ t.val < 64 := by decide +kernel
theorem second_iff : ∀ t : Fin cfg0.N, k0_cond2 (grid0.coords t) = 1#1 ↔ ¬ t.val < 64 := by decide +kernel
theorem live15 : ∀ t : Fin cfg0.N, cfg0.idle 15 (grid0.coords t) = false := by decide +kernel
theorem live16 : ∀ t : Fin cfg0.N, cfg0.idle 16 (grid0.coords t) = false := by decide +kernel

theorem at_first {t : Fin cfg0.N} (h : t.val < 64) : k0_cond1 (grid0.coords t) = 1#1 := (first_iff t).mpr h
theorem not_second {t : Fin cfg0.N} (h : t.val < 64) : ¬ k0_cond2 (grid0.coords t) = 1#1 := fun e => (second_iff t).mp e h
theorem not_first {t : Fin cfg0.N} (h : ¬ t.val < 64) : ¬ k0_cond1 (grid0.coords t) = 1#1 := fun e => h ((first_iff t).mp e)
theorem at_second {t : Fin cfg0.N} (h : ¬ t.val < 64) : k0_cond2 (grid0.coords t) = 1#1 := (second_iff t).mpr h

/-! What the point's body does. -/

def ins (t : Fin cfg0.N) : Ins F := ⟨iblk m c 0 t, iblk m c 1 t, X0_2 m c t, iblk m c 3 t, iblk m c 4 t, iblk m c 5 t, X0_6 m c t, iblk m c 7 t, iblk m c 8 t, iblk m c 9 t, iblk m c 10 t, iblk m c 11 t, iblk m c 12 t, iblk m c 13 t, iblk m c 14 t⟩

def heldAt (t : Fin cfg0.N) : sProp (World F) := held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (win0_10.stage (cfg0.slots t 10)) (win0_11.stage (cfg0.slots t 11)) (win0_12.stage (cfg0.slots t 12)) (win0_13.stage (cfg0.slots t 13)) (win0_14.stage (cfg0.slots t 14)) (ins m c t)

abbrev firstAt (t : Fin cfg0.N) (h : t.val < 64) :=
  runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (at_first h) (not_second h) (ins m c t)
abbrev secondAt (t : Fin cfg0.N) (h : ¬ t.val < 64) :=
  runSecond c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (not_first h) (at_second h) (ins m c t)

/-- The stores into the two results, -/
def rowsL (t : Fin cfg0.N) : List (View.Piece (Elt F) S4096x128 .f32) :=
  if h : t.val < 64 then (firstAt m c t h).1 else (secondAt m c t h).1
def tableL (t : Fin cfg0.N) : List (View.Piece (Elt F) S8x512 .f32) :=
  if h : t.val < 64 then (firstAt m c t h).2.1 else (secondAt m c t h).2.1

theorem run_at (t : Fin cfg0.N) (E : Set ℕ) (K : PUnit → sProp (World F)) :
    iprop(heldAt m c t ∗ (∃ d, owns (c : Thread nD τ) (win0_15.stage (cfg0.slots t 15)) fullShare d)
        ∗ (∃ d, owns (c : Thread nD τ) (win0_16.stage (cfg0.slots t 16)) fullShare d)
        ∗ (iprop(heldAt m c t ∗ left c (win0_15.stage (cfg0.slots t 15)) (win0_16.stage (cfg0.slots t 16)) (rowsL m c t) (tableL m c t)) -∗ K ⟨⟩))
      ⊢ wp frame (wpE (defs₀ (F := F)) Variants.none c none) E (bodyAt0 t) K := by
  unfold rowsL tableL
  by_cases h : t.val < 64
  · rw [dif_pos h, dif_pos h]
    exact (firstAt m c t h).2.2 E K
  · rw [dif_neg h, dif_neg h]
    exact (secondAt m c t h).2.2 E K

theorem rows_cover (t : Fin cfg0.N) (y : S4096x128.Idx) : ∃ p ∈ rowsL m c t, y ∈ p.1.set := by
  unfold rowsL
  by_cases h : t.val < 64
  · rw [dif_pos h, stores_first]
    exact stores_cover _ y
  · rw [dif_neg h, stores_second]
    exact stores_cover _ y

theorem table_cover (t : Fin cfg0.N) (y : S8x512.Idx) : ∃ p ∈ tableL m c t, y ∈ p.1.set := by
  unfold tableL
  by_cases h : t.val < 64
  · rw [dif_pos h]
    exact table_first _ _ _ _ _ _ _ _ _ _ _ _ _ _ _ _ _ _ _ _ _ _ _ _ _ _ _ _ _ _ _ _ _ _ _ _  _ _ _ y
  · rw [dif_neg h]
    exact table_second _ _ _ _ _ _ _ _ _ _ _ _ _ _ _ _ _ _ _ _ _ _ _ _ _ _ _ _ _ _ _ _ _ _ _ _  _ _ _ y

/-- and what they leave there. -/
def rowsLeft (t : Fin cfg0.N) : Vec F S4096x128 .f32 :=
  (Memref.whole cc0_stg15_0 : Memref sig .tc .vmem S4096x128 .f32).view.read _
    ((Memref.whole cc0_stg15_0 : Memref sig .tc .vmem S4096x128 .f32).view.writes _ (Memref.whole cc0_stg15_0 : Memref sig .tc .vmem S4096x128 .f32).view.junk (rowsL m c t))
def tableLeft (t : Fin cfg0.N) : Vec F S8x512 .f32 :=
  (Memref.whole cc0_stg16_0 : Memref sig .tc .vmem S8x512 .f32).view.read _
    ((Memref.whole cc0_stg16_0 : Memref sig .tc .vmem S8x512 .f32).view.writes _ (Memref.whole cc0_stg16_0 : Memref sig .tc .vmem S8x512 .f32).view.junk (tableL m c t))

/-! The launch. -/

/-- The proof data: a block read stays, a result's block holds what the stores leave. -/
def dats (_r : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => rowsLeft m c t
    | ⟨16, _⟩ => tableLeft m c t
    | ⟨_ + 17, h⟩ => absurd h (Nat.not_lt.2 (Nat.le_add_left _ _))
  Φ _ := Pipeline.ΦA spec0 c
  q _ := fullShare
  owed _ := 0

theorem A_eq (w : Fin cfg0.W) : (dats m 0 c).A w = V m c (Pipeline.arrRef spec0 w) := by
  dsimp only [dats]

theorem leaves (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact
  rw [h]

def given (t : Fin cfg0.N) : sProp (World F) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d)))

def returned (t : Fin cfg0.N) : sProp (World F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

-- seventeen windows are taken and given back one by one
set_option maxHeartbeats 3200000 in
theorem body (t : Fin cfg0.N) : given m c t
    ⊢ wp frame (wpE (defs₀ (F := F)) Variants.none c none) Set.univ (bodyAt0 t) (fun _ => returned m c t) := by
  unfold given returned
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl), before0_11_of m (dats m 0 c) (A_eq m c 11) (fun _ => rfl), before0_12_of m (dats m 0 c) (A_eq m c 12) (fun _ => rfl), before0_13_of m (dats m 0 c) (A_eq m c 13) (fun _ => rfl), before0_14_of m (dats m 0 c) (A_eq m c 14) (fun _ => rfl)]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare (iblk m c 0 t) from leaves m c t 0 rfl]
  rw [show (dats m 0 c).leavesExact 1 t = owns (c : Thread nD τ) (win0_1.stage (cfg0.slots t 1)) fullShare (iblk m c 1 t) from leaves m c t 1 rfl]
  rw [show (dats m 0 c).leavesExact 2 t = owns (c : Thread nD τ) (win0_2.stage (cfg0.slots t 2)) fullShare (X0_2 m c t) from leaves m c t 2 rfl]
  rw [show (dats m 0 c).leavesExact 3 t = owns (c : Thread nD τ) (win0_3.stage (cfg0.slots t 3)) fullShare (iblk m c 3 t) from leaves m c t 3 rfl]
  rw [show (dats m 0 c).leavesExact 4 t = owns (c : Thread nD τ) (win0_4.stage (cfg0.slots t 4)) fullShare (iblk m c 4 t) from leaves m c t 4 rfl]
  rw [show (dats m 0 c).leavesExact 5 t = owns (c : Thread nD τ) (win0_5.stage (cfg0.slots t 5)) fullShare (iblk m c 5 t) from leaves m c t 5 rfl]
  rw [show (dats m 0 c).leavesExact 6 t = owns (c : Thread nD τ) (win0_6.stage (cfg0.slots t 6)) fullShare (X0_6 m c t) from leaves m c t 6 rfl]
  rw [show (dats m 0 c).leavesExact 7 t = owns (c : Thread nD τ) (win0_7.stage (cfg0.slots t 7)) fullShare (iblk m c 7 t) from leaves m c t 7 rfl]
  rw [show (dats m 0 c).leavesExact 8 t = owns (c : Thread nD τ) (win0_8.stage (cfg0.slots t 8)) fullShare (iblk m c 8 t) from leaves m c t 8 rfl]
  rw [show (dats m 0 c).leavesExact 9 t = owns (c : Thread nD τ) (win0_9.stage (cfg0.slots t 9)) fullShare (iblk m c 9 t) from leaves m c t 9 rfl]
  rw [show (dats m 0 c).leavesExact 10 t = owns (c : Thread nD τ) (win0_10.stage (cfg0.slots t 10)) fullShare (iblk m c 10 t) from leaves m c t 10 rfl]
  rw [show (dats m 0 c).leavesExact 11 t = owns (c : Thread nD τ) (win0_11.stage (cfg0.slots t 11)) fullShare (iblk m c 11 t) from leaves m c t 11 rfl]
  rw [show (dats m 0 c).leavesExact 12 t = owns (c : Thread nD τ) (win0_12.stage (cfg0.slots t 12)) fullShare (iblk m c 12 t) from leaves m c t 12 rfl]
  rw [show (dats m 0 c).leavesExact 13 t = owns (c : Thread nD τ) (win0_13.stage (cfg0.slots t 13)) fullShare (iblk m c 13 t) from leaves m c t 13 rfl]
  rw [show (dats m 0 c).leavesExact 14 t = owns (c : Thread nD τ) (win0_14.stage (cfg0.slots t 14)) fullShare (iblk m c 14 t) from leaves m c t 14 rfl]
  rw [show (dats m 0 c).leavesExact 15 t = owns (c : Thread nD τ) (win0_15.stage (cfg0.slots t 15)) fullShare (rowsLeft m c t) from leaves m c t 15 (live15 t)]
  rw [show (dats m 0 c).leavesExact 16 t = owns (c : Thread nD τ) (win0_16.stage (cfg0.slots t 16)) fullShare (tableLeft m c t) from leaves m c t 16 (live16 t)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run_at m c t Set.univ _)
  unfold heldAt held ins left
  dsimp only
  isplitl [H0 H1 H2 H3 H4 H5 H6 H7 H8 H9 H10 H11 H12 H13 H14]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  isplitl [H16]; · iexists _; iexact H16
  iintro ⟨⟨H0, H1, H2, H3, H4, H5, H6, H7, H8, H9, H10, H11, H12, H13, H14⟩, ⟨%e15, H15⟩, ⟨%e16, H16⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns rowsLeft; iexists _; isplitr
    swap; · iexact H15
    ipureintro; exact View.read_writes_of_cover _ _ _ _ _ (rows_cover m c t)
  unfold owns tableLeft; iexists _; isplitr
  swap; · iexact H16
  ipureintro; exact View.read_writes_of_cover _ _ _ _ _ (table_cover m c t)

theorem obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body m c t) rfl .rfl fun _ => .rfl

-- the run's implicit arguments are found under plain definitions
set_option backward.isDefEq.respectTransparency.types false in
theorem run_still : θ_run defs (onTc (τ := τ) (main (F := F))) ⟨m, fun _ => 0, ρ⟩
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) ⟨m, fun _ => 0, ρ⟩ (Pipeline.FramePost cfgs (dats m) 0 (V m)) :=
  (θ_run defs _ _).mono (fun _ h => h.1) (run_still m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run m ρ)) ((θ_run defs _ _).mono (fun _ h => h.2) (run_still m ρ))

end Cert.Proof.OutFrame

end
-- ==== Proof.OutBits.lean ====
/- The out-projection kernel at the machine's floats: the program is the idealized one's text, whose run holds at any float
   values. -/
module

public import proofs.«01_k».proof.Proof.OutFrame
public import proofs.«01_k».proof.Proof.Gen.OutKernel.Frame
public import Idealize.ShloMosaic.PureOps.BitExact

@[expose] public section

set_option maxRecDepth 16384

noncomputable section

namespace Cert.Proof.OutBits

open Cert.OutKernel Cert.OutKernel.Gen Idealize.ShloMosaic Idealize.ShloMosaic.TcCoe Idealize.ShloMosaic.Tactic Idealize.SL.Sem

theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  Eq.mp (by sl_kernel_rfl) (Cert.Proof.OutFrame.frame (F := Bits) m ρ)

end Cert.Proof.OutBits

end
-- ==== Proof.OutMath.lean ====
/- The out-projection over plain rows of extended reals: the two branches projected, gated and summed, projected again and
   added to the token. -/
module

public import Idealize.ShloMosaic.Adequacy
public import Idealize.ShloMosaic.Init
public import Idealize.ShloMosaic.Lib.Pointwise

@[expose] public section

noncomputable section

namespace Cert.Proof.OutMath

open Idealize.ShloMosaic

/-- One over one and the exponential of the negated gate. -/
def opened (g : EReal) : EReal := Ideal.div 1 (1 + Ideal.exp (-g))

/-- One element of a token's row: `a` and `s` the two branches' rows, `g` the gates of both, `x` the token's element. -/
def merged (a : Fin 1024 → EReal) (s g : Fin 2048 → EReal) (x : EReal) (wa : (⟨2, ![1024, 1024]⟩ : Shape).Idx → EReal)
    (ws : (⟨2, ![2048, 1024]⟩ : Shape).Idx → EReal) (wo : (⟨2, ![1024, 1024]⟩ : Shape).Idx → EReal) (n : Fin 1024) : EReal :=
  x + ∑ k : Fin 1024, (opened (g ⟨k.val, by omega⟩) * (∑ j : Fin 1024, a j * wa (ix2 j k))
    + opened (g ⟨1024 + k.val, by omega⟩) * (∑ j : Fin 2048, s j * ws (ix2 j k))) * wo (ix2 k n)

/-- The tokens' rows lie in eighths: row `R` is of token `R / 8`, the column its eighth's. -/
def col (R : Fin 393216) (l : Fin 128) : Fin 1024 := ⟨128 * (R.val % 8) + l.val, by omega⟩

/-- A token of the first batch, and of the second one. -/
def first (a : (⟨2, ![32768, 1024]⟩ : Shape).Idx → EReal) (s : (⟨2, ![32768, 2048]⟩ : Shape).Idx → EReal)
    (p : (⟨2, ![32768, 8832]⟩ : Shape).Idx → EReal) (x : (⟨3, ![16, 2048, 1024]⟩ : Shape).Idx → EReal)
    (wa : (⟨2, ![1024, 1024]⟩ : Shape).Idx → EReal) (ws : (⟨2, ![2048, 1024]⟩ : Shape).Idx → EReal) (wo : (⟨2, ![1024, 1024]⟩ : Shape).Idx → EReal)
    (r : Fin 32768) (n : Fin 1024) : EReal :=
  merged (fun j => a (ix2 r j)) (fun j => s (ix2 r j)) (fun j => p (ix2 r (⟨2048 + j.val, by omega⟩ : Fin 8832)))
    (x (ix3 (⟨r.val / 2048, by omega⟩ : Fin 16) (⟨r.val % 2048, by omega⟩ : Fin 2048) n)) wa ws wo n

def second (a : (⟨2, ![16384, 1024]⟩ : Shape).Idx → EReal) (s : (⟨2, ![16384, 2048]⟩ : Shape).Idx → EReal)
    (p : (⟨2, ![16384, 8832]⟩ : Shape).Idx → EReal) (x : (⟨3, ![4, 4096, 1024]⟩ : Shape).Idx → EReal)
    (wa : (⟨2, ![1024, 1024]⟩ : Shape).Idx → EReal) (ws : (⟨2, ![2048, 1024]⟩ : Shape).Idx → EReal) (wo : (⟨2, ![1024, 1024]⟩ : Shape).Idx → EReal)
    (r : Fin 16384) (n : Fin 1024) : EReal :=
  merged (fun j => a (ix2 r j)) (fun j => s (ix2 r j)) (fun j => p (ix2 r (⟨2048 + j.val, by omega⟩ : Fin 8832)))
    (x (ix3 (⟨r.val / 4096, by omega⟩ : Fin 4) (⟨r.val % 4096, by omega⟩ : Fin 4096) n)) wa ws wo n

end Cert.Proof.OutMath

end
-- ==== Proof.OutRef.lean ====
/- The out-projection's reference, index by index. -/
module

public import proofs.«01_k».proof.Proof.Gen.OutReferenceIdeal.Run
public import proofs.«01_k».proof.Proof.OutMath

@[expose] public section

set_option maxRecDepth 16384

noncomputable section

namespace Cert.Proof.OutRef

open Idealize.ShloMosaic Cert.OutReferenceIdeal Cert.OutReferenceIdeal.Gen Idealize.SL.Sem Cert.Proof.OutMath

/-- The first batch's tokens, sixteen sequences of 2048. -/
def batch (a : FVec Ideal S32768x1024 .bf16) (s : FVec Ideal S32768x2048 .bf16) (p : FVec Ideal S32768x8832 .bf16)
    (x : FVec Ideal S16x2048x1024 .f32) (wa : FVec Ideal S1024x1024 .f32) (ws : FVec Ideal S2048x1024 .f32) (wo : FVec Ideal S1024x1024 .f32) :
    FVec Ideal S16x2048x1024 .f32 :=
  addf x (Host.dotGeneral dot_S16x2048x1024_S1024x1024_S16x2048x1024_2_0_01_1_n_n none (addf (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 0] (shapeCast _ (extf .f32 (extractStridedSlice S32768x2048 ![0, 2048] p slices_S32768x8832_S32768x2048_0_2048) bitsLt_bf16_f32) shapeCasts_S32768x2048_S16x2048x2048) slices_S16x2048x2048_S16x2048x1024_0_0_0)))))
      (Host.dotGeneral dot_S16x2048x1024_S1024x1024_S16x2048x1024_2_0_01_1_n_n none (shapeCast _ (extf .f32 a bitsLt_bf16_f32) shapeCasts_S32768x1024_S16x2048x1024) wa))
    (mulf (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (extractStridedSlice S16x2048x1024 ![0, 0, 1024] (shapeCast _ (extf .f32 (extractStridedSlice S32768x2048 ![0, 2048] p slices_S32768x8832_S32768x2048_0_2048) bitsLt_bf16_f32) shapeCasts_S32768x2048_S16x2048x2048) slices_S16x2048x2048_S16x2048x1024_0_0_1024)))))
      (Host.dotGeneral dot_S16x2048x2048_S2048x1024_S16x2048x1024_2_0_01_1_n_n none (shapeCast _ (extf .f32 s bitsLt_bf16_f32) shapeCasts_S32768x2048_S16x2048x2048) ws))) wo)

theorem batch_apply (a : FVec Ideal S32768x1024 .bf16) (s : FVec Ideal S32768x2048 .bf16) (p : FVec Ideal S32768x8832 .bf16)
    (x : FVec Ideal S16x2048x1024 .f32) (wa : FVec Ideal S1024x1024 .f32) (ws : FVec Ideal S2048x1024 .f32) (wo : FVec Ideal S1024x1024 .f32)
    (b : Fin 16) (i : Fin 2048) (r : Fin 32768) (hr : r.val = b.val * 2048 + i.val) (n : Fin 1024) : batch a s p x wa ws wo (ix3 b i n)
      = merged (fun j => a (ix2 r j)) (fun j => s (ix2 r j)) (fun j => p (ix2 r (⟨2048 + j.val, by omega⟩ : Fin 8832))) (x (ix3 b i n)) wa ws wo n := by
  unfold batch merged opened
  have e : r = ⟨b.val * 2048 + i.val, by omega⟩ := Fin.ext hr
  rw [e]
  pointwise

/-- The second batch's, four sequences of 4096. -/
def batch' (a : FVec Ideal S16384x1024 .bf16) (s : FVec Ideal S16384x2048 .bf16) (p : FVec Ideal S16384x8832 .bf16)
    (x : FVec Ideal S4x4096x1024 .f32) (wa : FVec Ideal S1024x1024 .f32) (ws : FVec Ideal S2048x1024 .f32) (wo : FVec Ideal S1024x1024 .f32) :
    FVec Ideal S4x4096x1024 .f32 :=
  addf x (Host.dotGeneral dot_S4x4096x1024_S1024x1024_S4x4096x1024_2_0_01_1_n_n none (addf (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 0] (shapeCast _ (extf .f32 (extractStridedSlice S16384x2048 ![0, 2048] p slices_S16384x8832_S16384x2048_0_2048) bitsLt_bf16_f32) shapeCasts_S16384x2048_S4x4096x2048) slices_S4x4096x2048_S4x4096x1024_0_0_0)))))
      (Host.dotGeneral dot_S4x4096x1024_S1024x1024_S4x4096x1024_2_0_01_1_n_n none (shapeCast _ (extf .f32 a bitsLt_bf16_f32) shapeCasts_S16384x1024_S4x4096x1024) wa))
    (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] (shapeCast _ (extf .f32 (extractStridedSlice S16384x2048 ![0, 2048] p slices_S16384x8832_S16384x2048_0_2048) bitsLt_bf16_f32) shapeCasts_S16384x2048_S4x4096x2048) slices_S4x4096x2048_S4x4096x1024_0_0_1024)))))
      (Host.dotGeneral dot_S4x4096x2048_S2048x1024_S4x4096x1024_2_0_01_1_n_n none (shapeCast _ (extf .f32 s bitsLt_bf16_f32) shapeCasts_S16384x2048_S4x4096x2048) ws))) wo)

theorem batch'_apply (a : FVec Ideal S16384x1024 .bf16) (s : FVec Ideal S16384x2048 .bf16) (p : FVec Ideal S16384x8832 .bf16)
    (x : FVec Ideal S4x4096x1024 .f32) (wa : FVec Ideal S1024x1024 .f32) (ws : FVec Ideal S2048x1024 .f32) (wo : FVec Ideal S1024x1024 .f32)
    (b : Fin 4) (i : Fin 4096) (r : Fin 16384) (hr : r.val = b.val * 4096 + i.val) (n : Fin 1024) : batch' a s p x wa ws wo (ix3 b i n)
      = merged (fun j => a (ix2 r j)) (fun j => s (ix2 r j)) (fun j => p (ix2 r (⟨2048 + j.val, by omega⟩ : Fin 8832))) (x (ix3 b i n)) wa ws wo n := by
  unfold batch' merged opened
  have e : r = ⟨b.val * 4096 + i.val, by omega⟩ := Fin.ext hr
  rw [e]
  pointwise

/-- Both batches' rows cut into eight parts, one after the other. -/
def rows (P : FVec Ideal S16x2048x1024 .f32) (Q : FVec Ideal S4x4096x1024 .f32) : FVec Ideal S393216x128 .f32 :=
  concatenate S393216x128 0 [⟨S262144x128, shapeCast _ P shapeCasts_S16x2048x1024_S262144x128⟩, ⟨S131072x128, shapeCast _ Q shapeCasts_S4x4096x1024_S131072x128⟩]
    concatenates_S262144x128_S131072x128_S393216x128_d0

theorem rows_first (P : FVec Ideal S16x2048x1024 .f32) (Q : FVec Ideal S4x4096x1024 .f32) (R : Fin 393216) (l : Fin 128) (h : R.val / 8 < 32768) :
    rows P Q (ix2 R l) = P (ix3 (⟨R.val / 8 / 2048, by omega⟩ : Fin 16) (⟨R.val / 8 % 2048, by omega⟩ : Fin 2048) (col R l)) := by
  have e : ∀ (b b' : Fin 16) (i i' : Fin 2048) (n n' : Fin 1024), b.val = b'.val → i.val = i'.val → n.val = n'.val → P (ix3 b i n) = P (ix3 b' i' n') :=
    fun b b' i i' n n' h h' h'' => by rw [Fin.ext h, Fin.ext h', Fin.ext h'']
  unfold rows
  pointwise
  refine (dif_pos (by omega)).trans (e _ _ _ _ _ _ ?_ rfl ?_)
  · show R.val / 16384 = R.val / 8 / 2048
    omega
  · show R.val % 8 * 128 + l.val = 128 * (R.val % 8) + l.val
    omega

theorem rows_second (P : FVec Ideal S16x2048x1024 .f32) (Q : FVec Ideal S4x4096x1024 .f32) (R : Fin 393216) (l : Fin 128) (h : ¬ R.val / 8 < 32768) :
    rows P Q (ix2 R l) = Q (ix3 (⟨(R.val / 8 - 32768) / 4096, by omega⟩ : Fin 4) (⟨(R.val / 8 - 32768) % 4096, by omega⟩ : Fin 4096) (col R l)) := by
  have e : ∀ (b b' : Fin 4) (i i' : Fin 4096) (n n' : Fin 1024), b.val = b'.val → i.val = i'.val → n.val = n'.val → Q (ix3 b i n) = Q (ix3 b' i' n') :=
    fun b b' i i' n n' h h' h'' => by rw [Fin.ext h, Fin.ext h', Fin.ext h'']
  unfold rows
  pointwise
  refine (dif_neg (by omega)).trans (e _ _ _ _ _ _ ?_ ?_ ?_)
  · show (R.val - 262144) / 32768 = (R.val / 8 - 32768) / 4096
    omega
  · show (R.val - 262144) / 8 % 4096 = (R.val / 8 - 32768) % 4096
    omega
  · show (R.val - 262144) % 8 * 128 + l.val = 128 * (R.val % 8) + l.val
    omega

end Cert.Proof.OutRef

end
-- ==== Proof.OutVal.lean ====
/- The out-projection kernel's tiles over extended reals, element by element. -/
module

public import proofs.«01_k».proof.Proof.OutTile
public import proofs.«01_k».proof.Proof.OutMath
public import Idealize.ShloMosaic.Lib.KernelVsHost

@[expose] public section

set_option maxRecDepth 16384

noncomputable section

namespace Cert.Proof.OutTile

open Cert.OutKernelIdeal Cert.OutKernelIdeal.Gen Idealize.ShloMosaic Idealize.SL.Sem Cert.Proof.OutMath

theorem gate_apply (g : Vec Ideal S256x1024 .bf16) (r : Fin 256) (k : Fin 1024) : gate (F := Ideal) g (ix2 r k) = opened (g (ix2 r k)) := by
  unfold gate opened
  pointwise
  rw [zero_sub]

theorem prodA_apply (x : Vec Ideal S512x1024 .bf16) (w : Vec Ideal S1024x1024 .bf16) (r : Fin 512) (k : Fin 1024) :
    prodA (F := Ideal) x w (ix2 r k) = ∑ j : Fin 1024, (x (ix2 r j) : EReal) * w (ix2 j k) := by
  unfold prodA
  pointwise

theorem prodS_apply (x : Vec Ideal S512x2048 .bf16) (w : Vec Ideal S2048x1024 .bf16) (r : Fin 512) (k : Fin 1024) :
    prodS (F := Ideal) x w (ix2 r k) = ∑ j : Fin 2048, (x (ix2 r j) : EReal) * w (ix2 j k) := by
  unfold prodS
  pointwise

theorem prodO_apply (x : FVec Ideal S256x1024 .bf16) (w : Vec Ideal S1024x1024 .bf16) (r : Fin 256) (k : Fin 1024) :
    prodO (F := Ideal) x w (ix2 r k) = ∑ j : Fin 1024, (x (ix2 r j) : EReal) * w (ix2 j k) := by
  unfold prodO
  pointwise

theorem half_apply (u : Fin 2) (pa ps : FVec Ideal S512x1024 .f32) (ga gs : Vec Ideal S256x1024 .bf16) (x : Vec Ideal S256x1024 .f32)
    (w : Vec Ideal S1024x1024 .bf16) (r : Fin 256) (n : Fin 1024) : half (F := Ideal) u pa ps ga gs x w (ix2 r n)
      = (x (ix2 r n) : EReal) + ∑ k : Fin 1024, (opened (ga (ix2 r k)) * pa (ix2 (⟨256 * u.val + r.val, by omega⟩ : Fin 512) k)
        + opened (gs (ix2 r k)) * ps (ix2 (⟨256 * u.val + r.val, by omega⟩ : Fin 512) k)) * w (ix2 k n) := by
  unfold half
  have e : ∀ (p : FVec Ideal S512x1024 .f32) (k : Fin 1024), extractStridedSlice S256x1024 ![256 * u.val, 0] p (slices_half u) (ix2 r k)
      = p (ix2 (⟨256 * u.val + r.val, by omega⟩ : Fin 512) k) := fun p k => by
    pointwise
  show shapeCast S256x1024 x shapeCasts_S256x1024_S256x1024 (ix2 r n) + prodO (F := Ideal) _ w (ix2 r n) = _
  rw [prodO_apply]
  refine congrArg₂ _ (by pointwise) (Finset.sum_congr rfl fun k _ => congrArg (· * _) ?_)
  show gate (F := Ideal) ga (ix2 r k) * _ + gate (F := Ideal) gs (ix2 r k) * _ = _
  rw [gate_apply, gate_apply, e, e]

/-- A load reads the block at its offsets. -/
theorem ld_apply {A B : ℕ} {t : EltTy} (a : Memref sig .tc .vmem ⟨2, ![A, B]⟩ t) (ha : a.IsWhole) (x : (⟨2, ![A, B]⟩ : Shape).Idx → Elt Ideal t)
    (n k o p : ℕ) (h : ∀ b : Fin 2, (![o, p] : Fin 2 → ℕ) b + (![n, k] : Fin 2 → ℕ) b ≤ (![A, B] : Fin 2 → ℕ) b) (r : Fin n) (l : Fin k) :
    ld (F := Ideal) a ha x n k o p h (ix2 r l)
      = x (ix2 (⟨o + r.val, by have : o + n ≤ A := h 0; omega⟩ : Fin A) (⟨p + l.val, by have : p + k ≤ B := h 1; omega⟩ : Fin B)) := by
  unfold ld
  rw [View.readAt_eq_ld, ha.read_unread]
  refine congrArg x (funext fun b => Fin.ext ?_)
  fin_cases b
  · show o + 1 * r.val = o + r.val
    omega
  · show p + 1 * l.val = p + l.val
    omega

section
variable (a : Memref sig .tc .vmem S512x1024 .bf16) (ha : a.IsWhole) (s : Memref sig .tc .vmem S512x2048 .bf16) (hs : s.IsWhole)
variable (g : Memref sig .tc .vmem S512x2048 .bf16) (hg : g.IsWhole) (r : Memref sig .tc .vmem S512x1024 .f32) (hr : r.IsWhole)
variable (wa : Memref sig .tc .vmem S1024x1024 .bf16) (hwa : wa.IsWhole) (ws : Memref sig .tc .vmem S2048x1024 .bf16) (hws : ws.IsWhole)
variable (wo : Memref sig .tc .vmem S1024x1024 .bf16) (hwo : wo.IsWhole)

/-- Row `x` of half `u` is the merged row of the blocks' row `256 u + x`. -/
theorem halfOf_apply (xa : Vec Ideal S512x1024 .bf16) (xs xg : Vec Ideal S512x2048 .bf16) (xr : Vec Ideal S512x1024 .f32)
    (xwa : Vec Ideal S1024x1024 .bf16) (xws : Vec Ideal S2048x1024 .bf16) (xwo : Vec Ideal S1024x1024 .bf16) (u : Fin 2) (x : Fin 256) (n : Fin 1024)
    (y : Fin 512) (hy : y.val = 256 * u.val + x.val) :
    halfOf (F := Ideal) a ha s hs g hg r hr wa hwa ws hws wo hwo xa xs xg xr xwa xws xwo u (ix2 x n)
      = merged (fun j => xa (ix2 y j)) (fun j => xs (ix2 y j)) (fun j => xg (ix2 y j)) (xr (ix2 y n)) xwa xws xwo n := by
  have e : ∀ {A B : ℕ} (f : (⟨2, ![A, B]⟩ : Shape).Idx → EReal) (i i' : Fin A) (j j' : Fin B), i.val = i'.val → j.val = j'.val → f (ix2 i j) = f (ix2 i' j') :=
    fun f i i' j j' h h' => by rw [Fin.ext h, Fin.ext h']
  unfold halfOf merged
  rw [half_apply]
  refine congrArg₂ _ ?_ (Finset.sum_congr rfl fun k _ => congrArg₂ _ (congrArg₂ _ (congrArg₂ _ (congrArg _ ?_) ?_) (congrArg₂ _ (congrArg _ ?_) ?_)) ?_)
  · rw [ld_apply]
    exact e xr _ _ _ _ hy.symm (Nat.zero_add _)
  · rw [ld_apply]
    exact e xg _ _ _ _ hy.symm (Nat.zero_add _)
  · rw [prodA_apply]
    refine Finset.sum_congr rfl fun j _ => ?_
    rw [ld_apply, ld_apply]
    exact congrArg₂ _ (e xa _ _ _ _ ((Nat.zero_add _).trans hy.symm) (Nat.zero_add _)) (e xwa _ _ _ _ (Nat.zero_add _) (Nat.zero_add _))
  · rw [ld_apply]
    exact e xg _ _ _ _ hy.symm rfl
  · rw [prodS_apply]
    refine Finset.sum_congr rfl fun j _ => ?_
    rw [ld_apply, ld_apply]
    exact congrArg₂ _ (e xs _ _ _ _ ((Nat.zero_add _).trans hy.symm) (Nat.zero_add _)) (e xws _ _ _ _ (Nat.zero_add _) (Nat.zero_add _))
  · rw [ld_apply]
    exact e xwo _ _ _ _ (Nat.zero_add _) (Nat.zero_add _)
end

end Cert.Proof.OutTile

end
-- ==== Proof.OutHost.lean ====
/- What the host hands to the out-projection kernel, and what each grid point reads of it. -/
module

public import proofs.«01_k».proof.Proof.OutVal
public import proofs.«01_k».proof.Proof.OutFrame
public import Idealize.ShloMosaic.Lib.StableHlo.RunRead
public import Idealize.ShloMosaic.Lib.Pipeline.ValueKit
public import Idealize.ShloMosaic.Lib.Pipeline.ReadBack

@[expose] public section

set_option maxRecDepth 16384

noncomputable section

namespace Cert.Proof.OutHost

open Cert.OutKernelIdeal Cert.OutKernelIdeal.Gen Idealize.ShloMosaic Idealize.ShloMosaic.TcCoe Idealize.SL.Sem Cert.Proof.OutMath Cert.Proof.OutTile

variable (m : (ℓ : Loc nD τ sig) → Buf (Elt Ideal) ℓ) (c : Dev nD)

/-- The arguments as plain arrays: the first batch's branches, projection and tokens, the second's, the three weights. -/
def argA : Vec Ideal S32768x1024 .bf16 := m (c.tc.loc main_arg0)
def argS : Vec Ideal S32768x2048 .bf16 := m (c.tc.loc main_arg1)
def argP : Vec Ideal S32768x8832 .bf16 := m (c.tc.loc main_arg2)
def argX : Vec Ideal S16x2048x1024 .f32 := m (c.tc.loc main_arg3)
def argA' : Vec Ideal S16384x1024 .bf16 := m (c.tc.loc main_arg4)
def argS' : Vec Ideal S16384x2048 .bf16 := m (c.tc.loc main_arg5)
def argP' : Vec Ideal S16384x8832 .bf16 := m (c.tc.loc main_arg6)
def argX' : Vec Ideal S4x4096x1024 .f32 := m (c.tc.loc main_arg7)
def argWa : Vec Ideal S1024x1024 .f32 := m (c.tc.loc main_arg8)
def argWs : Vec Ideal S2048x1024 .f32 := m (c.tc.loc main_arg9)
def argWo : Vec Ideal S1024x1024 .f32 := m (c.tc.loc main_arg10)

theorem flat_apply (x : FVec Ideal S16x2048x1024 .f32) (r : Fin 32768) (k : Fin 1024) :
    shapeCast S32768x1024 x shapeCasts_S16x2048x1024_S32768x1024 (ix2 r k)
      = x (ix3 (⟨r.val / 2048, by omega⟩ : Fin 16) (⟨r.val % 2048, by omega⟩ : Fin 2048) k) := by
  pointwise

theorem flat_apply' (x : FVec Ideal S4x4096x1024 .f32) (r : Fin 16384) (k : Fin 1024) :
    shapeCast S16384x1024 x shapeCasts_S4x4096x1024_S16384x1024 (ix2 r k)
      = x (ix3 (⟨r.val / 4096, by omega⟩ : Fin 4) (⟨r.val % 4096, by omega⟩ : Fin 4096) k) := by
  pointwise

/-! The arrays the kernel is called with. -/

def hostA : Vec Ideal S32768x1024 .bf16 := V m c main_arg0
def hostS : Vec Ideal S32768x2048 .bf16 := V m c main_arg1
def hostP : Vec Ideal S32768x8832 .bf16 := V m c main_arg2
def hostX : Vec Ideal S32768x1024 .f32 := V m c main_v9
def hostA' : Vec Ideal S16384x1024 .bf16 := V m c main_arg4
def hostS' : Vec Ideal S16384x2048 .bf16 := V m c main_arg5
def hostP' : Vec Ideal S16384x8832 .bf16 := V m c main_arg6
def hostX' : Vec Ideal S16384x1024 .f32 := V m c main_v10
def hostWa : Vec Ideal S1024x1024 .bf16 := V m c main_v11
def hostWs : Vec Ideal S2048x1024 .bf16 := V m c main_v12
def hostWo : Vec Ideal S1024x1024 .bf16 := V m c main_v13

theorem hostA_eq : hostA m c = argA m c := by unfold hostA; entry_read; rfl
theorem hostS_eq : hostS m c = argS m c := by unfold hostS; entry_read; rfl
theorem hostP_eq : hostP m c = argP m c := by unfold hostP; entry_read; rfl
theorem hostA'_eq : hostA' m c = argA' m c := by unfold hostA'; entry_read; rfl
theorem hostS'_eq : hostS' m c = argS' m c := by unfold hostS'; entry_read; rfl
theorem hostP'_eq : hostP' m c = argP' m c := by unfold hostP'; entry_read; rfl
theorem hostWa_eq : hostWa m c = argWa m c := by unfold hostWa; entry_read; rfl
theorem hostWs_eq : hostWs m c = argWs m c := by unfold hostWs; entry_read; rfl
theorem hostWo_eq : hostWo m c = argWo m c := by unfold hostWo; entry_read; rfl

theorem hostX_apply (r : Fin 32768) (k : Fin 1024) : hostX m c (ix2 r k)
    = argX m c (ix3 (⟨r.val / 2048, by omega⟩ : Fin 16) (⟨r.val % 2048, by omega⟩ : Fin 2048) k) := by
  unfold hostX
  entry_read
  exact flat_apply _ r k

theorem hostX'_apply (r : Fin 16384) (k : Fin 1024) : hostX' m c (ix2 r k)
    = argX' m c (ix3 (⟨r.val / 4096, by omega⟩ : Fin 4) (⟨r.val % 4096, by omega⟩ : Fin 4096) k) := by
  unfold hostX'
  entry_read
  exact flat_apply' _ r k

/-! What each grid point reads. -/

theorem points (t : Fin cfg0.N) : t.val < 96 := lt_of_lt_of_eq t.isLt (by decide +kernel)

theorem idx0 : ∀ t : Fin cfg0.N, win0_0.index t 0 = min t.val 63 ∧ win0_0.index t 1 = 0 := by decide +kernel
theorem idx1 : ∀ t : Fin cfg0.N, win0_1.index t 0 = min t.val 63 ∧ win0_1.index t 1 = 0 := by decide +kernel
theorem idx2 : ∀ t : Fin cfg0.N, win0_2.index t 0 = min t.val 63 ∧ win0_2.index t 1 = 1 := by decide +kernel
theorem idx3 : ∀ t : Fin cfg0.N, win0_3.index t 0 = min t.val 63 ∧ win0_3.index t 1 = 0 := by decide +kernel
theorem idx4 : ∀ t : Fin cfg0.N, win0_4.index t 0 = t.val - 64 ∧ win0_4.index t 1 = 0 := by decide +kernel
theorem idx5 : ∀ t : Fin cfg0.N, win0_5.index t 0 = t.val - 64 ∧ win0_5.index t 1 = 0 := by decide +kernel
theorem idx6 : ∀ t : Fin cfg0.N, win0_6.index t 0 = t.val - 64 ∧ win0_6.index t 1 = 1 := by decide +kernel
theorem idx7 : ∀ t : Fin cfg0.N, win0_7.index t 0 = t.val - 64 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx15 : ∀ t : Fin cfg0.N, win0_15.index t 0 = t.val ∧ win0_15.index t 1 = 0 := by decide +kernel

/-- A token of the first batch and one of the second, of a block of 512. -/
def tokOf (t : Fin cfg0.N) (y : Fin 512) : Fin 32768 := ⟨512 * min t.val 63 + y.val, by omega⟩
def tokOf' (t : Fin cfg0.N) (y : Fin 512) : Fin 16384 := ⟨512 * (t.val - 64) + y.val, by have := points t; omega⟩
/-- The gates' columns. -/
def gateCol (k : Fin 2048) : Fin 8832 := ⟨2048 + k.val, by omega⟩

theorem a_block (t : Fin cfg0.N) (y : Fin 512) (k : Fin 1024) : iblk m c 0 t (ix2 y k) = argA m c (ix2 (tokOf t y) k) := by
  obtain ⟨h0, h1⟩ := idx0 t
  rw [← hostA_eq]
  unfold hostA tokOf
  blk_ext [iblk, h0, h1]

theorem s_block (t : Fin cfg0.N) (y : Fin 512) (k : Fin 2048) : iblk m c 1 t (ix2 y k) = argS m c (ix2 (tokOf t y) k) := by
  obtain ⟨h0, h1⟩ := idx1 t
  rw [← hostS_eq]
  unfold hostS tokOf
  blk_ext [iblk, h0, h1]

theorem g_block (t : Fin cfg0.N) (y : Fin 512) (k : Fin 2048) : X0_2 m c t (ix2 y k) = argP m c (ix2 (tokOf t y) (gateCol k)) := by
  obtain ⟨h0, h1⟩ := idx2 t
  rw [← hostP_eq]
  unfold hostP tokOf gateCol X0_2 Pipeline.Window.fill
  rw [dif_pos (moved0_2 t (ix2 y k))]
  blk_ext [iblk, h0, h1]

theorem x_block (t : Fin cfg0.N) (y : Fin 512) (k : Fin 1024) : iblk m c 3 t (ix2 y k) = hostX m c (ix2 (tokOf t y) k) := by
  obtain ⟨h0, h1⟩ := idx3 t
  unfold hostX tokOf
  blk_ext [iblk, h0, h1]

theorem a_block' (t : Fin cfg0.N) (y : Fin 512) (k : Fin 1024) : iblk m c 4 t (ix2 y k) = argA' m c (ix2 (tokOf' t y) k) := by
  obtain ⟨h0, h1⟩ := idx4 t
  rw [← hostA'_eq]
  unfold hostA' tokOf'
  blk_ext [iblk, h0, h1]

theorem s_block' (t : Fin cfg0.N) (y : Fin 512) (k : Fin 2048) : iblk m c 5 t (ix2 y k) = argS' m c (ix2 (tokOf' t y) k) := by
  obtain ⟨h0, h1⟩ := idx5 t
  rw [← hostS'_eq]
  unfold hostS' tokOf'
  blk_ext [iblk, h0, h1]

theorem g_block' (t : Fin cfg0.N) (y : Fin 512) (k : Fin 2048) : X0_6 m c t (ix2 y k) = argP' m c (ix2 (tokOf' t y) (gateCol k)) := by
  obtain ⟨h0, h1⟩ := idx6 t
  rw [← hostP'_eq]
  unfold hostP' tokOf' gateCol X0_6 Pipeline.Window.fill
  rw [dif_pos (moved0_6 t (ix2 y k))]
  blk_ext [iblk, h0, h1]

theorem x_block' (t : Fin cfg0.N) (y : Fin 512) (k : Fin 1024) : iblk m c 7 t (ix2 y k) = hostX' m c (ix2 (tokOf' t y) k) := by
  obtain ⟨h0, h1⟩ := idx7 t
  unfold hostX' tokOf'
  blk_ext [iblk, h0, h1]

theorem wa_block (t : Fin cfg0.N) : iblk m c 8 t = argWa m c := by
  obtain ⟨h0, h1⟩ := idx8 t
  rw [← hostWa_eq]
  unfold hostWa
  funext j
  rw [show j = ix2 (n0 := 1024) (n1 := 1024) (j 0) (j 1) from eq_ix2 (n0 := 1024) (n1 := 1024) j]
  blk_ext [iblk, h0, h1]

theorem ws_block (t : Fin cfg0.N) : iblk m c 9 t = argWs m c := by
  obtain ⟨h0, h1⟩ := idx9 t
  rw [← hostWs_eq]
  unfold hostWs
  funext j
  rw [show j = ix2 (n0 := 2048) (n1 := 1024) (j 0) (j 1) from eq_ix2 (n0 := 2048) (n1 := 1024) j]
  blk_ext [iblk, h0, h1]

theorem wo_block (t : Fin cfg0.N) : iblk m c 10 t = argWo m c := by
  obtain ⟨h0, h1⟩ := idx10 t
  rw [← hostWo_eq]
  unfold hostWo
  funext j
  rw [show j = ix2 (n0 := 1024) (n1 := 1024) (j 0) (j 1) from eq_ix2 (n0 := 1024) (n1 := 1024) j]
  blk_ext [iblk, h0, h1]

end Cert.Proof.OutHost

end
-- ==== Proof.OutOut.lean ====
/- The out-projection kernel's result array: what each grid point's stores leave, and the run with it. -/
module

public import proofs.«01_k».proof.Proof.OutHost
public import Idealize.ShloMosaic.Lib.Pipeline.ValueKit.Held

@[expose] public section

set_option maxRecDepth 16384

noncomputable section

namespace Cert.Proof.OutOut

open Cert.OutKernelIdeal Cert.OutKernelIdeal.Gen Idealize.ShloMosaic Idealize.ShloMosaic.TcCoe Idealize.SL.Sem Cert.Proof.OutMath Cert.Proof.OutTile
  Cert.Proof.OutFrame Cert.Proof.OutHost

variable (m : (ℓ : Loc nD τ sig) → Buf (Elt Ideal) ℓ) (ρ : Dev nD → PrngReg) (c : Dev nD)

/-- The tokens of both batches. -/
def token1 : Fin 32768 → Fin 1024 → EReal := first (argA m c) (argS m c) (argP m c) (argX m c) (argWa m c) (argWs m c) (argWo m c)
def token2 : Fin 16384 → Fin 1024 → EReal := second (argA' m c) (argS' m c) (argP' m c) (argX' m c) (argWa m c) (argWs m c) (argWo m c)

/-- The result. -/
def res (R : Fin 393216) (l : Fin 128) : EReal :=
  if h : R.val / 8 < 32768 then token1 m c ⟨R.val / 8, h⟩ (col R l) else token2 m c ⟨R.val / 8 - 32768, by omega⟩ (col R l)

/-- The stores leave at row `2048 u + 8 x + j` the columns from `128 j` of row `x` of half `u`. -/
def spread (H : Fin 2 → FVec Ideal S256x1024 .f32) (y : S4096x128.Idx) : EReal :=
  H (⟨(y 0).val / 2048, by have : (y 0).val < 4096 := (y 0).isLt; omega⟩ : Fin 2)
    (ix2 (⟨(y 0).val % 2048 / 8, by omega⟩ : Fin 256) (⟨128 * ((y 0).val % 8) + (y 1).val, by have : (y 1).val < 128 := (y 1).isLt; omega⟩ : Fin 1024))

theorem part_apply (v : FVec Ideal S256x1024 .f32) (j : Fin 8) (x : Fin 256) (l : Fin 128) :
    extractStridedSlice S256x128 ![0, 128 * j.val] v (slices_part j) (ix2 x l) = v (ix2 x (⟨128 * j.val + l.val, by omega⟩ : Fin 1024)) := by
  pointwise

theorem stores_apply (H : Fin 2 → FVec Ideal S256x1024 .f32) (y : S4096x128.Idx) : View.canon (stores (F := Ideal) H) y = spread H y := by
  refine View.canon_apply_of_pieces (Val := Elt Ideal) (spread H) _ ?_ y (stores_cover H y)
  intro p hp x
  obtain ⟨n, rfl⟩ := (List.mem_ofFn ..).mp hp
  have e : ∀ (u u' : Fin 2) (i i' : Fin 256) (k k' : Fin 1024), u.val = u'.val → i.val = i'.val → k.val = k'.val → H u (ix2 i k) = H u' (ix2 i' k') :=
    fun u u' i i' k k' h h' h'' => by rw [Fin.ext h, Fin.ext h', Fin.ext h'']
  have hx : (x 0).val < 256 := (x 0).isLt
  have hl : (x 1).val < 128 := (x 1).isLt
  have e0 : (((rowsAt n).emb x) 0).val = 2048 * ((15 - n.val) / 8) + (15 - n.val) % 8 + 8 * (x 0).val := rfl
  have e1 : (((rowsAt n).emb x) 1).val = 0 + 1 * (x 1).val := rfl
  have q := part_apply (H ⟨(15 - n.val) / 8, by omega⟩) ⟨(15 - n.val) % 8, by omega⟩ (x 0) (x 1)
  rw [← eq_ix2 (n0 := 256) (n1 := 128) x] at q
  refine q.trans (e _ _ _ _ _ _ ?_ ?_ ?_)
  · show (15 - n.val) / 8 = (((rowsAt n).emb x) 0).val / 2048
    omega
  · show (x 0).val = (((rowsAt n).emb x) 0).val % 2048 / 8
    omega
  · show 128 * ((15 - n.val) % 8) + (x 1).val = 128 * ((((rowsAt n).emb x) 0).val % 8) + (((rowsAt n).emb x) 1).val
    omega

/-- A half's row at a point of the first 64, -/
theorem half_first (t : Fin cfg0.N) (h : t.val < 64) (y : Fin 512) (n : Fin 1024) (r : Fin 32768) (hr : r.val = 512 * t.val + y.val) :
    merged (fun j => iblk m c 0 t (ix2 y j)) (fun j => iblk m c 1 t (ix2 y j)) (fun j => X0_2 m c t (ix2 y j)) (iblk m c 3 t (ix2 y n))
      (iblk m c 8 t) (iblk m c 9 t) (iblk m c 10 t) n = token1 m c r n := by
  have e : tokOf t y = r := Fin.ext (by show 512 * min t.val 63 + y.val = r.val; omega)
  unfold token1 first
  rw [wa_block, ws_block, wo_block, x_block, hostX_apply]
  simp only [a_block, s_block, g_block, e]
  rfl

/-- and at one of the others. -/
theorem half_second (t : Fin cfg0.N) (h : ¬ t.val < 64) (y : Fin 512) (n : Fin 1024) (r : Fin 16384) (hr : r.val = 512 * (t.val - 64) + y.val) :
    merged (fun j => iblk m c 4 t (ix2 y j)) (fun j => iblk m c 5 t (ix2 y j)) (fun j => X0_6 m c t (ix2 y j)) (iblk m c 7 t (ix2 y n))
      (iblk m c 8 t) (iblk m c 9 t) (iblk m c 10 t) n = token2 m c r n := by
  have e : tokOf' t y = r := Fin.ext (by show 512 * (t.val - 64) + y.val = r.val; omega)
  unfold token2 second
  rw [wa_block, ws_block, wo_block, x_block', hostX'_apply]
  simp only [a_block', s_block', g_block', e]
  rfl

/-- The row of a block's 512 that row `y` of the stored block is of, and its column. -/
def rowIn (y : S4096x128.Idx) : Fin 512 := ⟨256 * ((y 0).val / 2048) + (y 0).val % 2048 / 8, by have : (y 0).val < 4096 := (y 0).isLt; omega⟩
def colIn (y : S4096x128.Idx) : Fin 1024 := ⟨128 * ((y 0).val % 8) + (y 1).val, by have : (y 1).val < 128 := (y 1).isLt; omega⟩

section
variable (a : Memref sig .tc .vmem S512x1024 .bf16) (ha : a.IsWhole) (s : Memref sig .tc .vmem S512x2048 .bf16) (hs : s.IsWhole)
variable (g : Memref sig .tc .vmem S512x2048 .bf16) (hg : g.IsWhole) (r : Memref sig .tc .vmem S512x1024 .f32) (hr : r.IsWhole)
variable (wa : Memref sig .tc .vmem S1024x1024 .bf16) (hwa : wa.IsWhole) (ws : Memref sig .tc .vmem S2048x1024 .bf16) (hws : ws.IsWhole)
variable (wo : Memref sig .tc .vmem S1024x1024 .bf16) (hwo : wo.IsWhole)

theorem stored (xa : Vec Ideal S512x1024 .bf16) (xs xg : Vec Ideal S512x2048 .bf16) (xr : Vec Ideal S512x1024 .f32)
    (xwa : Vec Ideal S1024x1024 .bf16) (xws : Vec Ideal S2048x1024 .bf16) (xwo : Vec Ideal S1024x1024 .bf16) (y : S4096x128.Idx) :
    View.canon (stores (halfOf (F := Ideal) a ha s hs g hg r hr wa hwa ws hws wo hwo xa xs xg xr xwa xws xwo)) y
      = merged (fun j => xa (ix2 (rowIn y) j)) (fun j => xs (ix2 (rowIn y) j)) (fun j => xg (ix2 (rowIn y) j)) (xr (ix2 (rowIn y) (colIn y))) xwa xws xwo
        (colIn y) :=
  (stores_apply _ y).trans (halfOf_apply a ha s hs g hg r hr wa hwa ws hws wo hwo xa xs xg xr xwa xws xwo _ _ _ (rowIn y) rfl)
end

theorem rowsLeft_eq (t : Fin cfg0.N) : rowsLeft m c t = View.canon (rowsL m c t) := by
  unfold rowsLeft
  exact View.read_writes_junk_eq_canon _ _

theorem left_first (t : Fin cfg0.N) (h : t.val < 64) (y : S4096x128.Idx) : View.canon (rowsL m c t) y
    = merged (fun j => iblk m c 0 t (ix2 (rowIn y) j)) (fun j => iblk m c 1 t (ix2 (rowIn y) j)) (fun j => X0_2 m c t (ix2 (rowIn y) j))
      (iblk m c 3 t (ix2 (rowIn y) (colIn y))) (iblk m c 8 t) (iblk m c 9 t) (iblk m c 10 t) (colIn y) := by
  unfold rowsL
  rw [dif_pos h, stores_first]
  exact stored _ _ _ _ _ _ _ _ _ _ _ _ _ _ _ _ _ _ _ _ _ y

theorem left_second (t : Fin cfg0.N) (h : ¬ t.val < 64) (y : S4096x128.Idx) : View.canon (rowsL m c t) y
    = merged (fun j => iblk m c 4 t (ix2 (rowIn y) j)) (fun j => iblk m c 5 t (ix2 (rowIn y) j)) (fun j => X0_6 m c t (ix2 (rowIn y) j))
      (iblk m c 7 t (ix2 (rowIn y) (colIn y))) (iblk m c 8 t) (iblk m c 9 t) (iblk m c 10 t) (colIn y) := by
  unfold rowsL
  rw [dif_neg h, stores_second]
  exact stored _ _ _ _ _ _ _ _ _ _ _ _ _ _ _ _ _ _ _ _ _ y

theorem block (t : Fin cfg0.N) (y : S4096x128.Idx) (R : Fin 393216) (hR : R.val = 4096 * t.val + (y 0).val) (l : Fin 128) (hl : l.val = (y 1).val) :
    rowsLeft m c t y = res m c R l := by
  have hy : (y 0).val < 4096 := (y 0).isLt
  have ht := points t
  have hn : colIn y = col R l := Fin.ext (by
    show 128 * ((y 0).val % 8) + (y 1).val = 128 * (R.val % 8) + l.val
    omega)
  have hr : (rowIn y).val = 256 * ((y 0).val / 2048) + (y 0).val % 2048 / 8 := rfl
  refine (congrFun (rowsLeft_eq m c t) y).trans ?_
  by_cases h : t.val < 64
  · have h' : R.val / 8 < 32768 := by omega
    refine (left_first m c t h y).trans ((half_first m c t h (rowIn y) (colIn y) ⟨R.val / 8, h'⟩ (by dsimp only; omega)).trans ?_)
    unfold res
    rw [dif_pos h', hn]
  · have h' : ¬ R.val / 8 < 32768 := by omega
    refine (left_second m c t h y).trans ((half_second m c t h (rowIn y) (colIn y) ⟨R.val / 8 - 32768, by omega⟩ (by dsimp only; omega)).trans ?_)
    unfold res
    rw [dif_neg h', hn]

theorem after15 (t : Fin cfg0.N) : (dats m 0 c).after 15 t = rowsLeft m c t := by dsimp only [dats]

theorem result : (dats m 0 c).arrAt 15 cfg0.N = fun i : S393216x128.Idx => res m c (i 0) (i 1) := by
  refine (dats m 0 c).arrAt_eq_of_covers 15 _ (by decide +kernel) fun t hf y => ?_
  blk_simp
  rw [after15]
  obtain ⟨h0, h1⟩ := idx15 t
  refine block m c t y _ ?_ _ ?_
  · blk_simp [h0]
    omega
  · blk_simp [h1]

theorem run_result : θ_run (defs (F := Ideal)) (onTc (τ := τ) (main (F := Ideal))) ⟨m, fun _ => 0, ρ⟩ (fun r => ∀ c : Dev nD,
      r.2.mem ((c.tc : Thread nD τ).loc main_v15_0) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h.1 c).1 15, h.2.1 c⟩) (θ_run_and (run m ρ) (frame m ρ))

end Cert.Proof.OutOut

end
-- ==== Proof.OutEqual.lean ====
/- The out-projection's two idealized programs leave the same tokens. -/
module

public import proofs.«01_k».proof.Defs
public import proofs.«01_k».proof.Proof.OutRef
public import proofs.«01_k».proof.Proof.OutOut

@[expose] public section

noncomputable section

namespace Cert.Proof

open Idealize.ShloMosaic Idealize.SL.Sem Cert.Proof.OutMath Cert.Proof.OutHost Cert.Proof.OutOut Cert.Proof.OutRef

variable (m : (ℓ : Loc Cert.OutKernelIdeal.nD Cert.OutKernelIdeal.τ Cert.OutKernelIdeal.sig) → Buf (Elt Ideal) ℓ) (c : Dev Cert.OutKernelIdeal.nD)

theorem ref_res (R : Fin 393216) (l : Fin 128) :
    rows (batch (argA m c) (argS m c) (argP m c) (argX m c) (argWa m c) (argWs m c) (argWo m c))
      (batch' (argA' m c) (argS' m c) (argP' m c) (argX' m c) (argWa m c) (argWs m c) (argWo m c)) (ix2 R l) = res m c R l := by
  unfold res
  by_cases h : R.val / 8 < 32768
  · rw [rows_first _ _ _ _ h, dif_pos h]
    exact batch_apply _ _ _ _ _ _ _ _ _ ⟨R.val / 8, h⟩ (by dsimp only; omega) _
  · rw [rows_second _ _ _ _ h, dif_neg h]
    exact batch'_apply _ _ _ _ _ _ _ _ _ ⟨R.val / 8 - 32768, by omega⟩ (by dsimp only; omega) _

theorem out_equal : Cert.algebraic_OutKernelIdeal_OutReferenceIdeal := by
  intro m g m' g' _ agree
  refine ⟨fun c => (Cert.Proof.OutFrame.dats m 0 c).arrAt 15 Cert.OutKernelIdeal.cfg0.N, run_result m g,
    (θ_run Cert.OutReferenceIdeal.defs _ _).mono (fun r h c => ⟨(h c).1.trans ?_, (h c).2⟩) (Cert.OutReferenceIdeal.Value.run (F := Ideal) m' g')⟩
  refine Eq.trans ?_ (result m c).symm
  obtain ⟨a0, a1, a2, a3, a4, a5, a6, a7, a8, a9, a10, _⟩ := agree c
  rw [a0, a1, a2, a3, a4, a5, a6, a7, a8, a9, a10]
  funext i
  have e := ref_res m c (i 0) (i 1)
  rw [← eq_ix2 (n0 := 393216) (n1 := 128) i] at e
  exact e

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Equal
public import proofs.«01_k».proof.Proof.InEqual
public import proofs.«01_k».proof.Proof.OutBits
public import proofs.«01_k».proof.Proof.OutEqual
public import Idealize.ShloMosaic.Adequacy
public import Idealize.ShloMosaic.Init

@[expose] public section

noncomputable section

namespace Cert.Proof

open Idealize.ShloMosaic Idealize.SL.Sem Cert.Kernel

/-- The reference is a straight line of host operations that declares no semaphore. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3))
        ∧ r.2.sem = fun _ => 0) :=
  (θ_run Cert.ReferenceIdeal.defs _ _).mono (fun r h =>
      And.intro (fun c => (h c).2) (Idealize.ShloMosaic.sem_eq_zero_of_no_sems (by decide) r.2))
    (Cert.ReferenceIdeal.Value.run (F := Ideal) m ρ)

/-- The in-projection's reference likewise. -/
theorem frame_in_ref (m : (ℓ : Loc Cert.InReferenceIdeal.nD Cert.InReferenceIdeal.τ Cert.InReferenceIdeal.sig) → Buf (Elt Ideal) ℓ)
    (ρ : Dev Cert.InReferenceIdeal.nD → PrngReg) :
    θ_run (Cert.InReferenceIdeal.defs (F := Ideal)) (onTc (τ := Cert.InReferenceIdeal.τ) (Cert.InReferenceIdeal.main (F := Ideal)))
      ⟨m, fun _ => 0, ρ⟩ (fun r => (∀ c : Dev Cert.InReferenceIdeal.nD,
        r.2.mem (c.tc.loc Cert.InReferenceIdeal.main_arg0) = m (c.tc.loc Cert.InReferenceIdeal.main_arg0)
        ∧ r.2.mem (c.tc.loc Cert.InReferenceIdeal.main_arg1) = m (c.tc.loc Cert.InReferenceIdeal.main_arg1)
        ∧ r.2.mem (c.tc.loc Cert.InReferenceIdeal.main_arg2) = m (c.tc.loc Cert.InReferenceIdeal.main_arg2)
        ∧ r.2.mem (c.tc.loc Cert.InReferenceIdeal.main_arg3) = m (c.tc.loc Cert.InReferenceIdeal.main_arg3)
        ∧ r.2.mem (c.tc.loc Cert.InReferenceIdeal.main_arg4) = m (c.tc.loc Cert.InReferenceIdeal.main_arg4)
        ∧ r.2.mem (c.tc.loc Cert.InReferenceIdeal.main_arg5) = m (c.tc.loc Cert.InReferenceIdeal.main_arg5)
        ∧ r.2.mem (c.tc.loc Cert.InReferenceIdeal.main_arg6) = m (c.tc.loc Cert.InReferenceIdeal.main_arg6))
        ∧ r.2.sem = fun _ => 0) :=
  (θ_run Cert.InReferenceIdeal.defs _ _).mono (fun r h =>
      And.intro (fun c => (h c).2.2.2.2.2) (Idealize.ShloMosaic.sem_eq_zero_of_no_sems (by decide) r.2))
    (Cert.InReferenceIdeal.Value.run (F := Ideal) m ρ)

/-- The out-projection's reference likewise. -/
theorem frame_out_ref (m : (ℓ : Loc Cert.OutReferenceIdeal.nD Cert.OutReferenceIdeal.τ Cert.OutReferenceIdeal.sig) → Buf (Elt Ideal) ℓ)
    (ρ : Dev Cert.OutReferenceIdeal.nD → PrngReg) :
    θ_run (Cert.OutReferenceIdeal.defs (F := Ideal)) (onTc (τ := Cert.OutReferenceIdeal.τ) (Cert.OutReferenceIdeal.main (F := Ideal)))
      ⟨m, fun _ => 0, ρ⟩ (fun r => (∀ c : Dev Cert.OutReferenceIdeal.nD,
        r.2.mem (c.tc.loc Cert.OutReferenceIdeal.main_arg0) = m (c.tc.loc Cert.OutReferenceIdeal.main_arg0)
        ∧ r.2.mem (c.tc.loc Cert.OutReferenceIdeal.main_arg1) = m (c.tc.loc Cert.OutReferenceIdeal.main_arg1)
        ∧ r.2.mem (c.tc.loc Cert.OutReferenceIdeal.main_arg2) = m (c.tc.loc Cert.OutReferenceIdeal.main_arg2)
        ∧ r.2.mem (c.tc.loc Cert.OutReferenceIdeal.main_arg3) = m (c.tc.loc Cert.OutReferenceIdeal.main_arg3)
        ∧ r.2.mem (c.tc.loc Cert.OutReferenceIdeal.main_arg4) = m (c.tc.loc Cert.OutReferenceIdeal.main_arg4)
        ∧ r.2.mem (c.tc.loc Cert.OutReferenceIdeal.main_arg5) = m (c.tc.loc Cert.OutReferenceIdeal.main_arg5)
        ∧ r.2.mem (c.tc.loc Cert.OutReferenceIdeal.main_arg6) = m (c.tc.loc Cert.OutReferenceIdeal.main_arg6)
        ∧ r.2.mem (c.tc.loc Cert.OutReferenceIdeal.main_arg7) = m (c.tc.loc Cert.OutReferenceIdeal.main_arg7)
        ∧ r.2.mem (c.tc.loc Cert.OutReferenceIdeal.main_arg8) = m (c.tc.loc Cert.OutReferenceIdeal.main_arg8)
        ∧ r.2.mem (c.tc.loc Cert.OutReferenceIdeal.main_arg9) = m (c.tc.loc Cert.OutReferenceIdeal.main_arg9)
        ∧ r.2.mem (c.tc.loc Cert.OutReferenceIdeal.main_arg10) = m (c.tc.loc Cert.OutReferenceIdeal.main_arg10)
        ∧ r.2.mem (c.tc.loc Cert.OutReferenceIdeal.main_arg11) = m (c.tc.loc Cert.OutReferenceIdeal.main_arg11)
        ∧ r.2.mem (c.tc.loc Cert.OutReferenceIdeal.main_arg12) = m (c.tc.loc Cert.OutReferenceIdeal.main_arg12)
        ∧ r.2.mem (c.tc.loc Cert.OutReferenceIdeal.main_arg13) = m (c.tc.loc Cert.OutReferenceIdeal.main_arg13)
        ∧ r.2.mem (c.tc.loc Cert.OutReferenceIdeal.main_arg14) = m (c.tc.loc Cert.OutReferenceIdeal.main_arg14)
        ∧ r.2.mem (c.tc.loc Cert.OutReferenceIdeal.main_arg15) = m (c.tc.loc Cert.OutReferenceIdeal.main_arg15))
        ∧ r.2.sem = fun _ => 0) :=
  (θ_run Cert.OutReferenceIdeal.defs _ _).mono (fun r h =>
      And.intro (fun c => (h c).2) (Idealize.ShloMosaic.sem_eq_zero_of_no_sems (by decide) r.2))
    (Cert.OutReferenceIdeal.Value.run (F := Ideal) m ρ)

theorem claim : Cert.Claim :=
  ⟨Cert.Kernel.Gen.facts, Cert.KernelIdeal.Gen.facts, Cert.ReferenceIdeal.Gen.facts, Cert.InKernel.Gen.facts,
    Cert.InKernelIdeal.Gen.facts, Cert.InReferenceIdeal.Gen.facts, Cert.OutKernel.Gen.facts,
    Cert.OutKernelIdeal.Gen.facts, Cert.OutReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => frame_ref m ρ,
    fun m ρ _ => frame_ref m ρ,
    fun m ρ _ => Cert.InKernel.Gen.frame m ρ,
    fun m ρ _ => Cert.InKernelIdeal.Gen.frame m ρ,
    fun m ρ _ => frame_in_ref m ρ,
    fun m ρ _ => Cert.Proof.OutBits.frame m ρ,
    fun m ρ _ => Cert.Proof.OutFrame.frame m ρ,
    fun m ρ _ => frame_out_ref m ρ,
    ⟨IdealRules.named_const.statement Cert.KernelIdeal.κ "mask" .f32 0xF149F2CA#32 _ rfl,
      IdealRules.named_const.statement Cert.KernelIdeal.κ "log2e" .f32 0x3FB8AA3B#32 _ rfl⟩,
    equal,
    IdealRules.named_const.statement Cert.InKernelIdeal.κ "scale" .f32 0x3E38AA3B#32 _ rfl,
    in_equal,
    trivial,
    out_equal⟩

end Cert.Proof

end
